-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 8192]⟩ ⟨2, ![4096, 8192]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 8192]⟩ ⟨2, ![4096, 8192]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x8192 : Shape := ⟨2, ![1024, 8192]⟩
abbrev S1024x1024 : Shape := ⟨2, ![1024, 1024]⟩
abbrev S2x1024x1024 : Shape := ⟨3, ![2, 1024, 1024]⟩
abbrev S4x8x128 : Shape := ⟨3, ![4, 8, 128]⟩
abbrev S_ : Shape := ⟨0, ![]⟩
abbrev S2 : Shape := ⟨1, ![2]⟩
abbrev S4 : Shape := ⟨1, ![4]⟩
abbrev S1x1024x1024 : Shape := ⟨3, ![1, 1024, 1024]⟩
abbrev S1 : Shape := ⟨1, ![1]⟩
abbrev S1x1x1 : Shape := ⟨3, ![1, 1, 1]⟩
abbrev S8x128 : Shape := ⟨2, ![8, 128]⟩
abbrev S1x8x128 : Shape := ⟨3, ![1, 8, 128]⟩
abbrev S1x4x8x128 : Shape := ⟨4, ![1, 4, 8, 128]⟩
abbrev S1x1x1x1 : Shape := ⟨4, ![1, 1, 1, 1]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S1024x8192, .f32⟩
  | .hbm, ⟨2, _⟩ => ⟨S1024x8192, .f32⟩
  | .local _ .vmem, ⟨0, _⟩ => ⟨S4096x1024, .f32⟩
  | .local _ .vmem, ⟨1, _⟩ => ⟨S1024x1024, .f32⟩
  | .local _ .vmem, ⟨2, _⟩ => ⟨S2x1024x1024, .f32⟩
  | .local _ .vmem, ⟨3, _⟩ => ⟨S4x8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 1 13 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_14 : BitVec 32 := 4#32
  let v15 : BitVec 32 := Scalar.addi v2 c4_i32_14
  let c1_i32_15 : BitVec 32 := 1#32
  let v16 : BitVec 32 := Scalar.subi v15 c1_i32_15
  let c4_i32_16 : BitVec 32 := 4#32
  let v17 : BitVec 32 := Scalar.remsi v16 c4_i32_16
  let c1024_i32 : BitVec 32 := 1024#32
  let v18 : BitVec 32 := Scalar.muli v17 c1024_i32
  let v19 : Index := Scalar.indexCast v18
  let c0 : Index := 0#32
  ![v19.toNat, 0]
def k0_dev3 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_26 : BitVec 32 := 1#32
  let v26 : BitVec 32 := Scalar.muli v7 c1_i32_26
  let v27 : BitVec 32 := Scalar.addi c0_i32_27 v26
  v27.toNat
def k0_off2 (d0 : Dev nD) (c0_i32_52 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c8_i32 : BitVec 32 := 8#32
  let v50 : BitVec 32 := Scalar.addi v2 c8_i32
  let c2_i32_51 : BitVec 32 := 2#32
  let v51 : BitVec 32 := Scalar.subi v50 c2_i32_51
  let v52 : BitVec 32 := Scalar.subi v51 c0_i32_52
  let c4_i32_53 : BitVec 32 := 4#32
  let v53 : BitVec 32 := Scalar.remsi v52 c4_i32_53
  let c1024_i32_56 : BitVec 32 := 1024#32
  let v56 : BitVec 32 := Scalar.muli v53 c1024_i32_56
  let v57 : Index := Scalar.indexCast v56
  let c0_57 : Index := 0#32
  ![v57.toNat, 0]
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_65 : BitVec 32 := 1#32
  let v65 : BitVec 32 := Scalar.muli v5 c1_i32_65
  let v66 : BitVec 32 := Scalar.addi c0_i32_66 v65
  v66.toNat
def k0_dev5 (d0 : Dev nD) : Nat :=
  let c0_i32_74 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_73 : BitVec 32 := 1#32
  let v67 : BitVec 32 := Scalar.muli v7 c1_i32_73
  let v68 : BitVec 32 := Scalar.addi c0_i32_74 v67
  v68.toNat
def k0_dev6 (d0 : Dev nD) : Nat :=
  let c0_i32_115 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_114 : BitVec 32 := 1#32
  let v106 : BitVec 32 := Scalar.muli v5 c1_i32_114
  let v107 : BitVec 32 := Scalar.addi c0_i32_115 v106
  v107.toNat
def k0_dev7 (d0 : Dev nD) : Nat :=
  let c0_i32_123 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_122 : BitVec 32 := 1#32
  let v108 : BitVec 32 := Scalar.muli v7 c1_i32_122
  let v109 : BitVec 32 := Scalar.addi c0_i32_123 v108
  v109.toNat
def k0_dev8 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_191 : BitVec 32 := 1#32
  let v173 : BitVec 32 := Scalar.muli v5 c1_i32_191
  let v174 : BitVec 32 := Scalar.addi c0_i32_192 v173
  v174.toNat
def k0_dev9 (d0 : Dev nD) : Nat :=
  let c0_i32_200 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_199 : BitVec 32 := 1#32
  let v175 : BitVec 32 := Scalar.muli v7 c1_i32_199
  let v176 : BitVec 32 := Scalar.addi c0_i32_200 v175
  v176.toNat
def k0_dev10 (d0 : Dev nD) : Nat :=
  let c0_i32_241 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_240 : BitVec 32 := 1#32
  let v214 : BitVec 32 := Scalar.muli v5 c1_i32_240
  let v215 : BitVec 32 := Scalar.addi c0_i32_241 v214
  v215.toNat
def k0_dev11 (d0 : Dev nD) : Nat :=
  let c0_i32_249 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_248 : BitVec 32 := 1#32
  let v216 : BitVec 32 := Scalar.muli v7 c1_i32_248
  let v217 : BitVec 32 := Scalar.addi c0_i32_249 v216
  v217.toNat
def k0_dev12 (d0 : Dev nD) : Nat :=
  let c0_i32_290 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_289 : BitVec 32 := 1#32
  let v255 : BitVec 32 := Scalar.muli v5 c1_i32_289
  let v256 : BitVec 32 := Scalar.addi c0_i32_290 v255
  v256.toNat
def k0_dev13 (d0 : Dev nD) : Nat :=
  let c0_i32_298 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_297 : BitVec 32 := 1#32
  let v257 : BitVec 32 := Scalar.muli v7 c1_i32_297
  let v258 : BitVec 32 := Scalar.addi c0_i32_298 v257
  v258.toNat
def k0_dev14 (d0 : Dev nD) : Nat :=
  let c0_i32_365 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_364 : BitVec 32 := 1#32
  let v322 : BitVec 32 := Scalar.muli v5 c1_i32_364
  let v323 : BitVec 32 := Scalar.addi c0_i32_365 v322
  v323.toNat
def k0_dev15 (d0 : Dev nD) : Nat :=
  let c0_i32_373 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_372 : BitVec 32 := 1#32
  let v324 : BitVec 32 := Scalar.muli v7 c1_i32_372
  let v325 : BitVec 32 := Scalar.addi c0_i32_373 v324
  v325.toNat
def k0_dev16 (d0 : Dev nD) : Nat :=
  let c0_i32_414 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_413 : BitVec 32 := 1#32
  let v363 : BitVec 32 := Scalar.muli v5 c1_i32_413
  let v364 : BitVec 32 := Scalar.addi c0_i32_414 v363
  v364.toNat
def k0_dev17 (d0 : Dev nD) : Nat :=
  let c0_i32_422 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_421 : BitVec 32 := 1#32
  let v365 : BitVec 32 := Scalar.muli v7 c1_i32_421
  let v366 : BitVec 32 := Scalar.addi c0_i32_422 v365
  v366.toNat
def k0_dev18 (d0 : Dev nD) : Nat :=
  let c0_i32_463 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_462 : BitVec 32 := 1#32
  let v404 : BitVec 32 := Scalar.muli v5 c1_i32_462
  let v405 : BitVec 32 := Scalar.addi c0_i32_463 v404
  v405.toNat
def k0_dev19 (d0 : Dev nD) : Nat :=
  let c0_i32_471 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_470 : BitVec 32 := 1#32
  let v406 : BitVec 32 := Scalar.muli v7 c1_i32_470
  let v407 : BitVec 32 := Scalar.addi c0_i32_471 v406
  v407.toNat
def k0_dev20 (d0 : Dev nD) : Nat :=
  let c0_i32_538 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_537 : BitVec 32 := 1#32
  let v471 : BitVec 32 := Scalar.muli v5 c1_i32_537
  let v472 : BitVec 32 := Scalar.addi c0_i32_538 v471
  v472.toNat
def k0_dev21 (d0 : Dev nD) : Nat :=
  let c0_i32_546 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_545 : BitVec 32 := 1#32
  let v473 : BitVec 32 := Scalar.muli v7 c1_i32_545
  let v474 : BitVec 32 := Scalar.addi c0_i32_546 v473
  v474.toNat
def k0_dev22 (d0 : Dev nD) : Nat :=
  let c0_i32_587 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_586 : BitVec 32 := 1#32
  let v512 : BitVec 32 := Scalar.muli v5 c1_i32_586
  let v513 : BitVec 32 := Scalar.addi c0_i32_587 v512
  v513.toNat
def k0_dev23 (d0 : Dev nD) : Nat :=
  let c0_i32_595 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_594 : BitVec 32 := 1#32
  let v514 : BitVec 32 := Scalar.muli v7 c1_i32_594
  let v515 : BitVec 32 := Scalar.addi c0_i32_595 v514
  v515.toNat
def k0_dev24 (d0 : Dev nD) : Nat :=
  let c0_i32_636 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_635 : BitVec 32 := 1#32
  let v553 : BitVec 32 := Scalar.muli v5 c1_i32_635
  let v554 : BitVec 32 := Scalar.addi c0_i32_636 v553
  v554.toNat
def k0_dev25 (d0 : Dev nD) : Nat :=
  let c0_i32_644 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_643 : BitVec 32 := 1#32
  let v555 : BitVec 32 := Scalar.muli v7 c1_i32_643
  let v556 : BitVec 32 := Scalar.addi c0_i32_644 v555
  v556.toNat
def k0_dev26 (d0 : Dev nD) : Nat :=
  let c0_i32_711 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_710 : BitVec 32 := 1#32
  let v620 : BitVec 32 := Scalar.muli v5 c1_i32_710
  let v621 : BitVec 32 := Scalar.addi c0_i32_711 v620
  v621.toNat
def k0_dev27 (d0 : Dev nD) : Nat :=
  let c0_i32_719 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_718 : BitVec 32 := 1#32
  let v622 : BitVec 32 := Scalar.muli v7 c1_i32_718
  let v623 : BitVec 32 := Scalar.addi c0_i32_719 v622
  v623.toNat
def k0_dev28 (d0 : Dev nD) : Nat :=
  let c0_i32_760 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_759 : BitVec 32 := 1#32
  let v661 : BitVec 32 := Scalar.muli v5 c1_i32_759
  let v662 : BitVec 32 := Scalar.addi c0_i32_760 v661
  v662.toNat
def k0_dev29 (d0 : Dev nD) : Nat :=
  let c0_i32_768 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_767 : BitVec 32 := 1#32
  let v663 : BitVec 32 := Scalar.muli v7 c1_i32_767
  let v664 : BitVec 32 := Scalar.addi c0_i32_768 v663
  v664.toNat
def k0_dev30 (d0 : Dev nD) : Nat :=
  let c0_i32_809 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_808 : BitVec 32 := 1#32
  let v702 : BitVec 32 := Scalar.muli v5 c1_i32_808
  let v703 : BitVec 32 := Scalar.addi c0_i32_809 v702
  v703.toNat
def k0_dev31 (d0 : Dev nD) : Nat :=
  let c0_i32_817 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_816 : BitVec 32 := 1#32
  let v704 : BitVec 32 := Scalar.muli v7 c1_i32_816
  let v705 : BitVec 32 := Scalar.addi c0_i32_817 v704
  v705.toNat
def k0_dev32 (d0 : Dev nD) : Nat :=
  let c0_i32_884 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_883 : BitVec 32 := 1#32
  let v769 : BitVec 32 := Scalar.muli v5 c1_i32_883
  let v770 : BitVec 32 := Scalar.addi c0_i32_884 v769
  v770.toNat
def k0_dev33 (d0 : Dev nD) : Nat :=
  let c0_i32_892 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_891 : BitVec 32 := 1#32
  let v771 : BitVec 32 := Scalar.muli v7 c1_i32_891
  let v772 : BitVec 32 := Scalar.addi c0_i32_892 v771
  v772.toNat
def k0_dev34 (d0 : Dev nD) : Nat :=
  let c0_i32_933 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_932 : BitVec 32 := 1#32
  let v810 : BitVec 32 := Scalar.muli v5 c1_i32_932
  let v811 : BitVec 32 := Scalar.addi c0_i32_933 v810
  v811.toNat
def k0_dev35 (d0 : Dev nD) : Nat :=
  let c0_i32_941 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_940 : BitVec 32 := 1#32
  let v812 : BitVec 32 := Scalar.muli v7 c1_i32_940
  let v813 : BitVec 32 := Scalar.addi c0_i32_941 v812
  v813.toNat
def k0_dev36 (d0 : Dev nD) : Nat :=
  let c0_i32_982 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_981 : BitVec 32 := 1#32
  let v851 : BitVec 32 := Scalar.muli v5 c1_i32_981
  let v852 : BitVec 32 := Scalar.addi c0_i32_982 v851
  v852.toNat
def k0_dev37 (d0 : Dev nD) : Nat :=
  let c0_i32_990 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_989 : BitVec 32 := 1#32
  let v853 : BitVec 32 := Scalar.muli v7 c1_i32_989
  let v854 : BitVec 32 := Scalar.addi c0_i32_990 v853
  v854.toNat
def k0_dev38 (d0 : Dev nD) : Nat :=
  let c0_i32_1057 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1056 : BitVec 32 := 1#32
  let v918 : BitVec 32 := Scalar.muli v5 c1_i32_1056
  let v919 : BitVec 32 := Scalar.addi c0_i32_1057 v918
  v919.toNat
def k0_dev39 (d0 : Dev nD) : Nat :=
  let c0_i32_1065 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1064 : BitVec 32 := 1#32
  let v920 : BitVec 32 := Scalar.muli v7 c1_i32_1064
  let v921 : BitVec 32 := Scalar.addi c0_i32_1065 v920
  v921.toNat
def k0_dev40 (d0 : Dev nD) : Nat :=
  let c0_i32_1106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1105 : BitVec 32 := 1#32
  let v959 : BitVec 32 := Scalar.muli v5 c1_i32_1105
  let v960 : BitVec 32 := Scalar.addi c0_i32_1106 v959
  v960.toNat
def k0_dev41 (d0 : Dev nD) : Nat :=
  let c0_i32_1114 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1113 : BitVec 32 := 1#32
  let v961 : BitVec 32 := Scalar.muli v7 c1_i32_1113
  let v962 : BitVec 32 := Scalar.addi c0_i32_1114 v961
  v962.toNat
def k0_dev42 (d0 : Dev nD) : Nat :=
  let c0_i32_1155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1154 : BitVec 32 := 1#32
  let v1000 : BitVec 32 := Scalar.muli v5 c1_i32_1154
  let v1001 : BitVec 32 := Scalar.addi c0_i32_1155 v1000
  v1001.toNat
def k0_dev43 (d0 : Dev nD) : Nat :=
  let c0_i32_1163 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1162 : BitVec 32 := 1#32
  let v1002 : BitVec 32 := Scalar.muli v7 c1_i32_1162
  let v1003 : BitVec 32 := Scalar.addi c0_i32_1163 v1002
  v1003.toNat
def k0_dev44 (d0 : Dev nD) : Nat :=
  let c0_i32_1230 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1229 : BitVec 32 := 1#32
  let v1067 : BitVec 32 := Scalar.muli v5 c1_i32_1229
  let v1068 : BitVec 32 := Scalar.addi c0_i32_1230 v1067
  v1068.toNat
def k0_dev45 (d0 : Dev nD) : Nat :=
  let c0_i32_1238 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1237 : BitVec 32 := 1#32
  let v1069 : BitVec 32 := Scalar.muli v7 c1_i32_1237
  let v1070 : BitVec 32 := Scalar.addi c0_i32_1238 v1069
  v1070.toNat
def k0_dev46 (d0 : Dev nD) : Nat :=
  let c0_i32_1279 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1278 : BitVec 32 := 1#32
  let v1108 : BitVec 32 := Scalar.muli v5 c1_i32_1278
  let v1109 : BitVec 32 := Scalar.addi c0_i32_1279 v1108
  v1109.toNat
def k0_dev47 (d0 : Dev nD) : Nat :=
  let c0_i32_1287 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1286 : BitVec 32 := 1#32
  let v1110 : BitVec 32 := Scalar.muli v7 c1_i32_1286
  let v1111 : BitVec 32 := Scalar.addi c0_i32_1287 v1110
  v1111.toNat
def k0_dev48 (d0 : Dev nD) : Nat :=
  let c0_i32_1328 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1327 : BitVec 32 := 1#32
  let v1149 : BitVec 32 := Scalar.muli v5 c1_i32_1327
  let v1150 : BitVec 32 := Scalar.addi c0_i32_1328 v1149
  v1150.toNat
def k0_dev49 (d0 : Dev nD) : Nat :=
  let c0_i32_1336 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1335 : BitVec 32 := 1#32
  let v1151 : BitVec 32 := Scalar.muli v7 c1_i32_1335
  let v1152 : BitVec 32 := Scalar.addi c0_i32_1336 v1151
  v1152.toNat
def k0_dev50 (d0 : Dev nD) : Nat :=
  let c0_i32_1396 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_1390 : BitVec 32 := 1#32
  let v1207 : BitVec 32 := Scalar.addi v2 c1_i32_1390
  let c4_i32_1391 : BitVec 32 := 4#32
  let v1208 : BitVec 32 := Scalar.remsi v1207 c4_i32_1391
  let c1_i32_1395 : BitVec 32 := 1#32
  let v1209 : BitVec 32 := Scalar.muli v1208 c1_i32_1395
  let v1210 : BitVec 32 := Scalar.addi c0_i32_1396 v1209
  v1210.toNat
def k0_dev51 (d0 : Dev nD) : Nat :=
  let c0_i32_1408 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_1401 : BitVec 32 := 2#32
  let v1219 : BitVec 32 := Scalar.addi v2 c2_i32_1401
  let c4_i32_1402 : BitVec 32 := 4#32
  let v1220 : BitVec 32 := Scalar.remsi v1219 c4_i32_1402
  let c1_i32_1407 : BitVec 32 := 1#32
  let v1221 : BitVec 32 := Scalar.muli v1220 c1_i32_1407
  let v1222 : BitVec 32 := Scalar.addi c0_i32_1408 v1221
  v1222.toNat
def k0_dev52 (d0 : Dev nD) : Nat :=
  let c0_i32_1420 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_1413 : BitVec 32 := 3#32
  let v1231 : BitVec 32 := Scalar.addi v2 c3_i32_1413
  let c4_i32_1414 : BitVec 32 := 4#32
  let v1232 : BitVec 32 := Scalar.remsi v1231 c4_i32_1414
  let c1_i32_1419 : BitVec 32 := 1#32
  let v1233 : BitVec 32 := Scalar.muli v1232 c1_i32_1419
  let v1234 : BitVec 32 := Scalar.addi c0_i32_1420 v1233
  v1234.toNat
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 19
  | .vmem => 2
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .local _ .vmem, ⟨0, _⟩ => ⟨S4096x8192, .f32⟩
  | .local _ .vmem, ⟨1, _⟩ => ⟨S4096x8192, .f32⟩
  | _, _ => ⟨S4096x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Program.lean ====
/- The kernel's body as a composition of a few short steps: what is printed in fifty-eight windows of sixty statements
   is eight column chunks of one shape, the exchange of the maxima, and eight quantising copies of one shape. -/
module

public import proofs.«01_k».proof.Proof.Gen.KernelIdeal.Points
public import Idealize.ShloMosaic.Lib.Pipeline.Regions

@[expose] public section

set_option maxRecDepth 65536

noncomputable section

namespace Cert.KernelIdeal.Own

open Idealize.ShloMosaic Idealize.SL.Sem
open Cert.KernelIdeal.Gen

variable {F : FTy → Type} [FloatOps F]

/-- A program of the kernel's body. -/
abbrev BProg (F : FTy → Type) (α : Type) := Prog (TpuEff nD τ sig (Elt F) Λ₀ .tc) α

/-! ## Places -/

/-- Slot `p` of the two communication slots, as a rectangle of the buffer. -/
abbrev slotR (p : Fin 2) : Rect S2x1024x1024 :=
  Rect.unit (s := S2x1024x1024) ![p.val, 0, 0] S1x1024x1024.size (by revert p; decide)

/-- Slot `p` of the communication buffer as a two-dimensional memref. -/
abbrev slotM (p : Fin 2) : Memref sig .tc .vmem S1024x1024 .f32 :=
  ((Memref.whole cc0_scratch2).slice (slotR p) (fun _ => rfl)).squeeze S1024x1024 squeezes_S1x1024x1024_S1024x1024

/-- Plane `r` of the four 8×128 planes of the maxima. -/
abbrev planeR (r : Fin 4) : Rect S4x8x128 :=
  Rect.unit (s := S4x8x128) ![r.val, 0, 0] S1x8x128.size (by revert r; decide)

/-- Plane `r` of the maxima as a two-dimensional memref. -/
abbrev planeM (r : Fin 4) : Memref sig .tc .vmem S8x128 .f32 :=
  ((Memref.whole cc0_scratch3).slice (planeR r) (fun _ => rfl)).squeeze S8x128 squeezes_S1x8x128_S8x128

/-- Column chunk `j` of a 1024×8192 array. -/
abbrev colR (j : Fin 8) : Rect S1024x8192 :=
  Rect.unit (s := S1024x8192) ![0, 1024 * j.val] S1024x1024.size (by revert j; decide)

/-- Column chunk `j` of this device's block of the second argument. -/
abbrev wM (j : Fin 8) : Memref sig .tc .hbm S1024x1024 .f32 := (Memref.whole main_arg1).slice (colR j) (fun _ => rfl)

/-- Column chunk `j` of the result. -/
abbrev outM (j : Fin 8) : Memref sig .tc .hbm S1024x1024 .f32 := (Memref.whole main_v1).slice (colR j) (fun _ => rfl)

/-- The semaphore of the local copies. -/
abbrev copyS : DmaSem sig := (cc0_scratch4 : DmaSems sig S_).sem
/-- The semaphore the ring's send out of slot `p` completes on, here. -/
abbrev sendS (p : Fin 2) : DmaSem sig :=
  ((cc0_scratch5.slice (Rect.unit (s := S2) ![p.val] S1.size (by revert p; decide))).squeeze S_ squeezes_S1_S_).sem
/-- The semaphore a landing in slot `p` is credited on. -/
abbrev recvS (p : Fin 2) : DmaSem sig :=
  ((cc0_scratch6.slice (Rect.unit (s := S2) ![p.val] S1.size (by revert p; decide))).squeeze S_ squeezes_S1_S_).sem
/-- The semaphore the `r`-th copy of the maximum completes on, here. -/
abbrev asendS (r : Fin 4) : DmaSem sig :=
  ((cc0_scratch7.slice (Rect.unit (s := S4) ![r.val] S1.size (by revert r; decide))).squeeze S_ squeezes_S1_S_).sem
/-- The semaphore a landing in plane `r` is credited on. -/
abbrev arecvS (r : Fin 4) : DmaSem sig :=
  ((cc0_scratch8.slice (Rect.unit (s := S4) ![r.val] S1.size (by revert r; decide))).squeeze S_ squeezes_S1_S_).sem
/-- The barrier semaphore. -/
abbrev barS : Sem sig := (SemArray.scalar (sig.barrier 0 rfl) : Sems sig S_).sem

/-- The left neighbour on the ring. -/
abbrev leftD (d : Dev nD) : Dev nD := ⟨k0_dev1 d, k0_dev1_lt d⟩
/-- The right neighbour on the ring. -/
abbrev rightD (d : Dev nD) : Dev nD := ⟨k0_dev2 d, k0_dev2_lt d⟩

/-! ## Pure values -/

/-- One 1024×1024 block product. -/
def mm (a b : FVec F S1024x1024 .f32) : FVec F S1024x1024 .f32 :=
  matmul dot_S1024x1024_S1024x1024_S1024x1024_1_0_0_1_n_n none a b (constant S1024x1024 .f32 0x00000000#32)

/-- A matrix as one slot. -/
def toSlot (a : FVec F S1024x1024 .f32) : FVec F S1x1024x1024 .f32 :=
  shapeCast S1x1024x1024 a shapeCasts_S1024x1024_S1x1024x1024

/-- One slot as a matrix. -/
def ofSlot (a : FVec F S1x1024x1024 .f32) : FVec F S1024x1024 .f32 :=
  shapeCast S1024x1024 a shapeCasts_S1x1024x1024_S1024x1024

/-- What arrived plus this device's own product. -/
def plus (a : FVec F S1x1024x1024 .f32) (b c : FVec F S1024x1024 .f32) : FVec F S1024x1024 .f32 :=
  addf (ofSlot a) (mm b c)

/-- The positive part. -/
def relu (a : FVec F S1024x1024 .f32) : FVec F S1024x1024 .f32 :=
  maximumf a (broadcast S1024x1024 (Scalar.ofBits .f32 0x00000000#32))

/-- The running maximum with a block's largest entry. -/
def amaxOf (am : F .f32) (a : FVec F S1024x1024 .f32) : F .f32 :=
  Scalar.maximumf am (extractAt ![0, 0, 0]
    (shapeCast S1x1x1 (multiReduction .maximumf [1, 2] S1 (toSlot a) 0xFF800000#32 reduces_S1x1024x1024_S1 (.inl rfl) rfl)
      shapeCasts_S1_S1x1x1) inpos_S1x1x1_p0_0_0)

/-- One number over an 8×128 plane. -/
def spread (x : F .f32) : FVec F S1x8x128 .f32 :=
  shapeCast S1x8x128 (broadcast S8x128 x) shapeCasts_S8x128_S1x8x128

/-- Quantise and scale back one slot: by the inverse scale, to eight bits and back, by the scale. -/
def quantV (sc inv : F .f32) (a : FVec F S1x1024x1024 .f32) : FVec F S1x1024x1024 .f32 :=
  toSlot (mulf (extf .f32 (truncf .fp8e4m3 (mulf (ofSlot a) (broadcast S1024x1024 inv)) bitsLt_fp8e4m3_f32) bitsLt_fp8e4m3_f32)
    (broadcast S1024x1024 sc))

/-- The largest entry of all planes, not below the floor 1e-30. -/
def gmax (v : Vec F S4x8x128 .f32) : F .f32 :=
  Scalar.maximumf (extractAt ![0, 0, 0, 0]
    (shapeCast S1x1x1x1 (multiReduction .maximumf [1, 2, 3] S1 (shapeCast S1x4x8x128 v shapeCasts_S4x8x128_S1x4x8x128) 0xFF800000#32 reduces_S1x4x8x128_S1 (.inl rfl) rfl)
      shapeCasts_S1_S1x1x1x1) inpos_S1x1x1x1_p0_0_0_0) (Scalar.ofBits .f32 0x0DA24260#32)

/-- The scale. -/
def scaleOf (v : Vec F S4x8x128 .f32) : F .f32 := Scalar.divf (gmax v) (Scalar.ofBits .f32 0x43E00000#32)

/-- The inverse scale. -/
def invOf (v : Vec F S4x8x128 .f32) : F .f32 := Scalar.divf (Scalar.ofBits .f32 0x43E00000#32) (gmax v)

/-! ## The steps -/

/-- Copy this device's block of the first argument in. -/
def loadX : BProg F PUnit := do
  Prog.lift (.enqueueDma (Memref.whole main_arg0) (.here (Memref.whole cc0_scratch0)) (.dma copyS)
    (Memref.isWhole_whole main_arg0).wordExact (Memref.isWhole_whole cc0_scratch0).wordExact ⟨Or.inl rfl, trivial⟩)
  Prog.lift (.waitDma2 copyS (Memref.whole main_arg0) (Memref.whole cc0_scratch0)
    (Memref.isWhole_whole main_arg0).wordExact (Memref.isWhole_whole cc0_scratch0).wordExact)

/-- Copy column chunk `j` of the second argument in. -/
def loadW (j : Fin 8) : BProg F PUnit := do
  Prog.lift (.enqueueDma (wM j) (.here (Memref.whole cc0_scratch1)) (.dma copyS)
    (View.wordExact_bits rfl) (Memref.isWhole_whole cc0_scratch1).wordExact ⟨Or.inl rfl, trivial⟩)
  Prog.lift (.waitDma2 copyS (wM j) (Memref.whole cc0_scratch1)
    (View.wordExact_bits rfl) (Memref.isWhole_whole cc0_scratch1).wordExact)

/-- Read slot `p`. -/
def rdSlot (p : Fin 2) : BProg F (Vec F S1x1024x1024 .f32) :=
  Prog.lift (.load (Memref.whole cc0_scratch2) (slotR p).toLoadRect (View.loadsAt_vmem h_S1x1024x1024))

/-- Write slot `p`. -/
def wrSlot (p : Fin 2) (a : FVec F S1x1024x1024 .f32) : BProg F PUnit :=
  Prog.lift (.store (Memref.whole cc0_scratch2) (slotR p) a Finset.univ (View.stores_vmem_bits_univ h_S1x1024x1024 rfl) (.inl rfl))

/-- Read the rows of the first argument that start at `off`. -/
def rdX (off : Fin 2 → ℕ) (h : ∀ a, off a + S1024x1024.size a ≤ S4096x1024.size a) : BProg F (Vec F S1024x1024 .f32) :=
  Prog.lift (.load (Memref.whole cc0_scratch0) (Rect.unit (s := S4096x1024) off S1024x1024.size h).toLoadRect (View.loadsAt_vmem h_S1024x1024))

/-- Read the chunk of the second argument. -/
def rdW : BProg F (Vec F S1024x1024 .f32) :=
  Prog.lift (.load (Memref.whole cc0_scratch1) (Rect.unit (s := S1024x1024) ![0, 0] S1024x1024.size inb_S1024x1024_S1024x1024_0_0).toLoadRect (View.loadsAt_vmem h_S1024x1024))

/-- The first partial product of a chunk, into slot 0. -/
def firstP (d : Dev nD) : BProg F PUnit := do
  let a ← rdX (k0_off1 d) (k0_off1_inb d)
  let b ← rdW
  let _ ← rdSlot 0
  wrSlot 0 (toSlot (mm a b))

/-- Free the landing slot to the left neighbour; wait for the right one's. -/
def handshake (d : Dev nD) : BProg F PUnit := do
  semSignalWord (leftD d) barS 1#32
  semWaitWord barS 1#32

/-- Send slot `p` into slot `q` of the right neighbour. -/
def sendR (d : Dev nD) (p q : Fin 2) : BProg F PUnit :=
  Prog.lift (.enqueueDma (slotM p) (.remote (Dev.tc (rightD d)) (slotM q) (.dma (sendS p))) (.dma (recvS q))
    ((View.wordExact_bits rfl).reshape _ _) ((View.wordExact_bits rfl).reshape _ _) ⟨⟨rfl, Or.inl rfl⟩, trivial⟩)

/-- Wait on a ring semaphore. -/
def waitR (s : DmaSem sig) (p q : Fin 2) : BProg F PUnit :=
  Prog.lift (.waitDma2 s (slotM q) (slotM p) ((View.wordExact_bits rfl).reshape _ _) ((View.wordExact_bits rfl).reshape _ _))

/-- One ring step's transfer: out of slot `p`, and in from the left neighbour into slot `q`. -/
def xfer (d : Dev nD) (p q : Fin 2) : BProg F PUnit := do
  sendR d p q
  waitR (sendS p) p q
  waitR (recvS q) q p

/-- What arrived in slot `q` plus the own product number `s`. -/
def accum (d : Dev nD) (s : Fin 3) (q : Fin 2) : BProg F PUnit := do
  let v ← rdSlot q
  let a ← rdX (k0_off2 d (BitVec.ofNat 32 s.val)) (k0_off2_inb d s)
  let b ← rdW
  let _ ← rdSlot q
  wrSlot q (toSlot (plus v a b))

/-- The last ring step's sum: its positive part, and the running maximum. -/
def finish (d : Dev nD) (am : F .f32) : BProg F (F .f32) := do
  let v ← rdSlot 1
  let a ← rdX (k0_off2 d 2#32) (k0_off2_inb d 2)
  let b ← rdW
  let _ ← rdSlot 1
  wrSlot 1 (toSlot (relu (plus v a b)))
  pure (amaxOf am (relu (plus v a b)))

/-- Copy slot `p` out to column chunk `j`. -/
def outC (j : Fin 8) (p : Fin 2) : BProg F PUnit := do
  Prog.lift (.enqueueDma (slotM p) (.here (outM j)) (.dma copyS) ((View.wordExact_bits rfl).reshape _ _) (View.wordExact_bits rfl) ⟨Or.inl rfl, trivial⟩)
  Prog.lift (.waitDma2 copyS (slotM p) (outM j) ((View.wordExact_bits rfl).reshape _ _) (View.wordExact_bits rfl))

/-- Copy column chunk `j` of the result into slot `p`. -/
def inC (j : Fin 8) (p : Fin 2) : BProg F PUnit := do
  Prog.lift (.enqueueDma (outM j) (.here (slotM p)) (.dma copyS) (View.wordExact_bits rfl) ((View.wordExact_bits rfl).reshape _ _) ⟨Or.inl rfl, trivial⟩)
  Prog.lift (.waitDma2 copyS (outM j) (slotM p) (View.wordExact_bits rfl) ((View.wordExact_bits rfl).reshape _ _))

/-- A chunk from its first transfer on. -/
def chunkTail (d : Dev nD) (j : Fin 8) (am : F .f32) : BProg F (F .f32) := do
  xfer d 0 1
  accum d 0 1
  handshake d
  xfer d 1 0
  accum d 1 0
  handshake d
  xfer d 0 1
  let am' ← finish d am
  outC j 1
  pure am'

/-- A later chunk. -/
def chunk (d : Dev nD) (j : Fin 8) (am : F .f32) : BProg F (F .f32) := do
  loadW j
  firstP d
  handshake d
  chunkTail d j am

/-- The opening barrier. -/
def opening (d : Dev nD) : BProg F PUnit := do
  semSignalWord (leftD d) barS 1#32
  semSignalWord (rightD d) barS 1#32
  semWaitWord barS 2#32

/-- All chunks; the maximum over them. -/
def ring (d : Dev nD) : BProg F (F .f32) := do
  loadW 0
  firstP d
  let a0 ← chunkTail d 0 (Scalar.ofBits .f32 0x00000000#32)
  let a1 ← chunk d 1 a0
  let a2 ← chunk d 2 a1
  let a3 ← chunk d 3 a2
  let a4 ← chunk d 4 a3
  let a5 ← chunk d 5 a4
  let a6 ← chunk d 6 a5
  chunk d 7 a6

/-- Send plane 0 into plane `q` of device `n`. -/
def sendA (n : Dev nD) (r q : Fin 4) : BProg F PUnit :=
  Prog.lift (.enqueueDma (planeM 0) (.remote (Dev.tc n) (planeM q) (.dma (asendS r))) (.dma (arecvS q))
    ((View.wordExact_bits rfl).reshape _ _) ((View.wordExact_bits rfl).reshape _ _) ⟨⟨rfl, Or.inl rfl⟩, trivial⟩)

/-- Wait on a semaphore of the maxima. -/
def waitA (s : DmaSem sig) (p q : Fin 4) : BProg F PUnit :=
  Prog.lift (.waitDma2 s (planeM q) (planeM p) ((View.wordExact_bits rfl).reshape _ _) ((View.wordExact_bits rfl).reshape _ _))

/-- The devices one, two and three places on. -/
abbrev fwd1 (d : Dev nD) : Dev nD := ⟨k0_dev50 d, k0_dev50_lt d⟩
@[inherit_doc fwd1] abbrev fwd2 (d : Dev nD) : Dev nD := ⟨k0_dev51 d, k0_dev51_lt d⟩
@[inherit_doc fwd1] abbrev fwd3 (d : Dev nD) : Dev nD := ⟨k0_dev52 d, k0_dev52_lt d⟩

/-- The exchange of the maxima; what all four planes hold. -/
def exchange (d : Dev nD) (am : F .f32) : BProg F (Vec F S4x8x128 .f32) := do
  let _ ← Prog.lift (.load (Memref.whole cc0_scratch3) (planeR 0).toLoadRect (View.loadsAt_vmem h_S1x8x128))
  Prog.lift (.store (Memref.whole cc0_scratch3) (planeR 0) (spread am) Finset.univ (View.stores_vmem_bits_univ h_S1x8x128 rfl) (.inl rfl))
  sendA (fwd1 d) 1 3
  sendA (fwd2 d) 2 2
  sendA (fwd3 d) 3 1
  waitA (arecvS 1) 1 0
  waitA (asendS 1) 0 3
  waitA (arecvS 2) 2 0
  waitA (asendS 2) 0 2
  waitA (arecvS 3) 3 0
  waitA (asendS 3) 0 1
  Prog.lift (.load (Memref.whole cc0_scratch3) (Rect.unit (s := S4x8x128) ![0, 0, 0] S4x8x128.size inb_S4x8x128_S4x8x128_0_0_0).toLoadRect (View.loadsAt_vmem h_S4x8x128))

/-- Quantise column chunk `j`. -/
def quant (sc inv : F .f32) (j : Fin 8) : BProg F PUnit := do
  inC j 0
  let v ← rdSlot 0
  let _ ← rdSlot 0
  wrSlot 0 (quantV sc inv v)
  outC j 0

/-- Quantise all chunks. -/
def quants (sc inv : F .f32) : BProg F PUnit := do
  quant sc inv 0
  quant sc inv 1
  quant sc inv 2
  quant sc inv 3
  quant sc inv 4
  quant sc inv 5
  quant sc inv 6
  quant sc inv 7

/-- The whole body. -/
def whole : BProg F PUnit := do
  let d ← Prog.lift .deviceId
  opening d
  loadX
  let am ← ring d
  let v ← exchange d am
  quants (scaleOf v) (invOf v)

/-- The printed body is the composition. -/
theorem body_eq (t : Fin cfg0.N) : bodyAt0 (F := F) t = whole := by
  chain_rfl

end Cert.KernelIdeal.Own

end
-- ==== Proof.Values.lean ====
/- What the buffers hold: the blocks of the arguments, the partial sums that travel round the ring, the maxima, and the
   quantised chunks, each as a function of the memory at launch. -/
module

public import proofs.«01_k».proof.Proof.Program
public import Idealize.ShloMosaic.Lib.Writes
public import Idealize.ShloMosaic.Lib.ViewIndex

@[expose] public section

set_option maxRecDepth 65536

noncomputable section

namespace Cert.KernelIdeal.Own

open Idealize.ShloMosaic Idealize.SL.Sem
open Cert.KernelIdeal.Gen

variable {F : FTy → Type} [FloatOps F]

/-- The TensorCore of a device. -/
abbrev T (d : Dev nD) : Thread nD τ := Dev.tc d

/-! ## Neighbours -/

/-- The device `n` places on. -/
def pl (d : Dev nD) (n : Fin 4) : Dev nD := ⟨(d.val + n.val) % 4, Nat.mod_lt _ (by decide)⟩
/-- The next device, to the right. -/
def nxt (d : Dev nD) : Dev nD := pl d 1
/-- The device before, to the left. -/
def prv (d : Dev nD) : Dev nD := pl d 3

theorem nxt_prv (d : Dev nD) : nxt (prv d) = d := by revert d; decide
theorem prv_nxt (d : Dev nD) : prv (nxt d) = d := by revert d; decide
theorem nxt_nxt (d : Dev nD) : nxt (nxt d) = pl d 2 := by revert d; decide
theorem pl2_pl2 (d : Dev nD) : pl (pl d 2) 2 = d := by revert d; decide
theorem pl_zero (d : Dev nD) : pl d 0 = d := by revert d; decide

theorem leftD_eq (d : Dev nD) : leftD d = prv d := by
  refine Fin.ext ?_
  show k0_dev1 d = _
  rw [k0_dev1_eq d]; revert d; decide
theorem rightD_eq (d : Dev nD) : rightD d = nxt d := by
  refine Fin.ext ?_
  show k0_dev2 d = _
  rw [k0_dev2_eq d]; revert d; decide
theorem fwd1_eq (d : Dev nD) : fwd1 d = nxt d := by
  refine Fin.ext ?_
  show k0_dev50 d = _
  rw [k0_dev50_eq d]; revert d; decide
theorem fwd2_eq (d : Dev nD) : fwd2 d = pl d 2 := by
  refine Fin.ext ?_
  show k0_dev51 d = _
  rw [k0_dev51_eq d]; revert d; decide
theorem fwd3_eq (d : Dev nD) : fwd3 d = prv d := by
  refine Fin.ext ?_
  show k0_dev52 d = _
  rw [k0_dev52_eq d]; revert d; decide

/-! ## Slots and matrices -/

theorem ofSlot_toSlot (a : FVec F S1024x1024 .f32) : ofSlot (toSlot a) = a := by
  funext x
  unfold ofSlot toSlot shapeCast
  rw [Shape.reshapeEquiv_reshapeEquiv, Shape.reshapeEquiv_self]

theorem toSlot_ofSlot (a : FVec F S1x1024x1024 .f32) : toSlot (ofSlot a) = a := by
  funext x
  unfold ofSlot toSlot shapeCast
  rw [Shape.reshapeEquiv_reshapeEquiv, Shape.reshapeEquiv_self]

/-- Quantise and scale back one matrix. -/
def quantM (sc inv : F .f32) (a : FVec F S1024x1024 .f32) : FVec F S1024x1024 .f32 :=
  mulf (extf .f32 (truncf .fp8e4m3 (mulf a (broadcast S1024x1024 inv)) bitsLt_fp8e4m3_f32) bitsLt_fp8e4m3_f32)
    (broadcast S1024x1024 sc)

theorem quantV_eq (sc inv : F .f32) (a : FVec F S1x1024x1024 .f32) : quantV sc inv a = toSlot (quantM sc inv (ofSlot a)) := rfl

/-- Slot `p` of the buffer's contents. -/
abbrev slotA (p : Fin 2) : View sig .tc .vmem (slotR p).shape .f32 := (Memref.whole cc0_scratch2).access (slotR p)

/-- Read as a matrix, a slot is its contents as a matrix. -/
theorem read_slotM (p : Fin 2) (f : (cc0_scratch2 : Ref sig .tc).ty.Contents (Elt F)) :
    (slotM p).view.read (Elt F) f = ofSlot ((slotA p).read (Elt F) f) := rfl

/-- A matrix written over a slot reads back as the matrix as a slot. -/
theorem read_write_slotM (p : Fin 2) (f : (cc0_scratch2 : Ref sig .tc).ty.Contents (Elt F)) (w : FVec F S1024x1024 .f32) :
    (slotA p).read (Elt F) ((slotM p).view.write (Elt F) f w Finset.univ) = toSlot w := by
  refine (congrArg ((slotA p).read (Elt F)) (View.write_reshape_univ (v := slotA p) (f := f) _ w)).trans ?_
  rw [View.read_write_univ, Shape.reshapeEquiv_symm]
  rfl

/-! ## The arguments' blocks -/

variable (m : (ℓ : Loc nD τ sig) → Buf (Elt F) ℓ)

/-- A device's block of the first argument. -/
def xb (d : Dev nD) : (cc0_scratch0 : Ref sig .tc).ty.Contents (Elt F) :=
  (Memref.whole main_arg0).view.read (Elt F) (m ((T d).loc main_arg0))

/-- A column chunk of a device's block of the second argument. -/
def wb (d : Dev nD) (j : Fin 8) : FVec F S1024x1024 .f32 := (wM j).view.read (Elt F) (m ((T d).loc main_arg1))

/-- The rows of the first product. -/
def xrow1 (d : Dev nD) : FVec F S1024x1024 .f32 :=
  ((Memref.whole cc0_scratch0).access (Rect.unit (s := S4096x1024) (k0_off1 d) S1024x1024.size (k0_off1_inb d))).read (Elt F) (xb m d)

/-- The rows of the product of ring step `s`. -/
def xrow2 (d : Dev nD) (s : Fin 3) : FVec F S1024x1024 .f32 :=
  ((Memref.whole cc0_scratch0).access
    (Rect.unit (s := S4096x1024) (k0_off2 d (BitVec.ofNat 32 s.val)) S1024x1024.size (k0_off2_inb d s))).read (Elt F) (xb m d)

/-! ## The partial sums -/

/-- What a device sends at ring step 0 of chunk `j`. -/
def acc0 (d : Dev nD) (j : Fin 8) : FVec F S1x1024x1024 .f32 := toSlot (mm (xrow1 m d) (wb m d j))
/-- What a device sends at ring step 1. -/
def acc1 (d : Dev nD) (j : Fin 8) : FVec F S1x1024x1024 .f32 := toSlot (plus (acc0 m (prv d) j) (xrow2 m d 0) (wb m d j))
/-- What a device sends at ring step 2. -/
def acc2 (d : Dev nD) (j : Fin 8) : FVec F S1x1024x1024 .f32 := toSlot (plus (acc1 m (prv d) j) (xrow2 m d 1) (wb m d j))
/-- A device's own rows of chunk `j` of the product's positive part. -/
def fin (d : Dev nD) (j : Fin 8) : FVec F S1024x1024 .f32 := relu (plus (acc2 m (prv d) j) (xrow2 m d 2) (wb m d j))

/-- What a device sends at step `k` of the twenty-four. -/
def accAt (k : ℕ) (d : Dev nD) : FVec F S1x1024x1024 .f32 :=
  match k % 3 with
  | 0 => acc0 m d (Fin.ofNat 8 (k / 3))
  | 1 => acc1 m d (Fin.ofNat 8 (k / 3))
  | _ => acc2 m d (Fin.ofNat 8 (k / 3))

/-! ## The maxima -/

/-- The running maximum before chunk `n`. -/
def amUp (d : Dev nD) : ℕ → F .f32
  | 0 => Scalar.ofBits .f32 0x00000000#32
  | n + 1 => amaxOf (amUp d n) (fin m d (Fin.ofNat 8 n))

/-- A device's maximum. -/
def amx (d : Dev nD) : F .f32 := amUp m d 8

/-- What a device's planes hold after the exchange: in plane `r` the maximum of the device `r` places on. -/
def allMax (d : Dev nD) : (cc0_scratch3 : Ref sig .tc).ty.Contents (Elt F) := fun i => amx m (pl d (i 0))

/-- The same, as the vector that is loaded. -/
def maxV (d : Dev nD) : Vec F S4x8x128 .f32 := allMax m d

/-- A device's chunk of the result. -/
def outV (d : Dev nD) (j : Fin 8) : FVec F S1024x1024 .f32 := quantM (scaleOf (maxV m d)) (invOf (maxV m d)) (fin m d j)

end Cert.KernelIdeal.Own

end
-- ==== Proof.Protocol.lean ====
/- The protocol of the ring: per semaphore who signals, who waits, in which round, and what is handed over.

   Step `k` of the twenty-four (three for each of eight chunks) sends slot `pk k` into slot `qk k` of the right
   neighbour. It is the `rk k`-th use of both slots' semaphores.
   * Barrier semaphore. Round 0: both neighbours signal, each handing over what this device may write of theirs at
     once. Round `k ≥ 1`: the right neighbour signals that its slot `qk k` is free for step `k`, and hands it over.
     In round 1 it also passes on plane 2 of the device two places on, which it was given in round 0.
   * Receive semaphore of slot `qk k`: the left neighbour's copy; it hands over the slot with the partial sum in it,
     and that the left neighbour has come past its barrier's round `k`.
   * Send semaphore of slot `pk k`: the device's own copy; the slot comes back.
   * The semaphores of the maxima: one round each; plane 0 is lent in three shares, planes 1 to 3 arrive. -/
module

public import proofs.«01_k».proof.Proof.Values
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Transfers
public import Idealize.ShloMosaic.Lib.Tactic

@[expose] public section

set_option maxRecDepth 65536

noncomputable section

namespace Cert.KernelIdeal.Own

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The resource algebra -/

/-- The ring's rounds. -/
abbrev UB : Type := URounds (GSem nD τ sig) Bool
/-- The pipeline's part, the ring's rounds, and the counters of the local copies. -/
abbrev UU : Type := UR sig nD τ × (UB × Counters)

local notation "𝕄" => MT nD τ sig ℕ (Elt F) ℕ UU ℕ

/-- The pipeline's part. -/
abbrev EP : Emb (UR sig nD τ) (MT nD τ sig ℕ (Elt F) ℕ UU ℕ) := embL
/-- The ring's part. -/
def ER : Emb UB (MT nD τ sig ℕ (Elt F) ℕ UU ℕ) :=
  ((Emb.inl : Emb UB (UB × Counters)).trans (Emb.inr : Emb (UB × Counters) UU)).trans
    (uEmb (nD := nD) (sig := sig) (Ix := ℕ) (Val := Elt F) (Name := ℕ) (U := UU) (Lvl := ℕ)).toEmb
instance ER_landsIn : (ER : Emb UB 𝕄).LandsIn (upEmb : UEmb _ 𝕄) := by unfold ER; infer_instance

/-! ## The cells -/

abbrev barCell (d : Dev nD) : GSem nD τ sig := (T d, .reg barS)
abbrev sendCell (d : Dev nD) (p : Fin 2) : GSem nD τ sig := (T d, .dma (sendS p))
abbrev recvCell (d : Dev nD) (p : Fin 2) : GSem nD τ sig := (T d, .dma (recvS p))
abbrev asendCell (d : Dev nD) (r : Fin 4) : GSem nD τ sig := (T d, .dma (asendS r))
abbrev arecvCell (d : Dev nD) (r : Fin 4) : GSem nD τ sig := (T d, .dma (arecvS r))

/-- A semaphore's number: the barrier's is 100. -/
def code : SemLoc sig → ℕ
  | .reg _ => 100
  | .dma q => q.val

theorem code_send (p : Fin 2) : code (.dma (sendS p)) = 1 + p.val := by revert p; decide
theorem code_recv (p : Fin 2) : code (.dma (recvS p)) = 3 + p.val := by revert p; decide
theorem code_asend (r : Fin 4) : code (.dma (asendS r)) = 5 + r.val := by revert r; decide
theorem code_arecv (r : Fin 4) : code (.dma (arecvS r)) = 9 + r.val := by revert r; decide

/-- The credit of one slot. -/
abbrev NS : ℕ := (slotM 0).view.dmaCredit
/-- The credit of one plane. -/
abbrev NA : ℕ := (planeM 0).view.dmaCredit
theorem NS_pos : 0 < NS := View.dmaCredit_pos _ (by decide)
theorem NA_pos : 0 < NA := View.dmaCredit_pos _ (by decide)

/-! ## The steps -/

/-- The slot step `k` sends from. -/
def pk (k : ℕ) : Fin 2 := if k % 3 = 1 then 1 else 0
/-- The slot step `k` lands in. -/
def qk (k : ℕ) : Fin 2 := if k % 3 = 1 then 0 else 1
/-- The round of both slots' semaphores that step `k` is. -/
def rk (k : ℕ) : ℕ := if k % 3 = 1 then k / 3 else 2 * (k / 3) + (k % 3) / 2

/-! ## Places held -/

variable (m : (ℓ : Loc nD τ sig) → Buf (Elt F) ℓ)

/-- Slot `p` of device `d` at contents `f`. -/
def slotPts (d : Dev nD) (p : Fin 2) (f : (cc0_scratch2 : Ref sig .tc).ty.Contents (Elt F)) : sProp 𝕄 :=
  (slotM p).view.loc (T d) ↦[(slotM p).view.set]{fullShare} f
/-- Slot `p` of device `d`, whatever it holds. -/
def slotAny (d : Dev nD) (p : Fin 2) : sProp 𝕄 := iprop(∃ f, slotPts (F := F) d p f)
/-- Slot `p` of device `d`, holding `v`. -/
def slotHas (d : Dev nD) (p : Fin 2) (v : FVec F S1x1024x1024 .f32) : sProp 𝕄 :=
  iprop(∃ f, slotPts (F := F) d p f ∗ ⌜(slotA p).read (Elt F) f = v⌝)

/-- Plane `r` of device `d` at contents `f`. -/
def planeAt (d : Dev nD) (r : Fin 4) (q : PosShare TreeShare) (f : (cc0_scratch3 : Ref sig .tc).ty.Contents (Elt F)) : sProp 𝕄 :=
  (planeM r).view.loc (T d) ↦[(planeM r).view.set]{q} f
/-- Plane `r` of device `d`, whatever it holds. -/
def planeAny (d : Dev nD) (r : Fin 4) : sProp 𝕄 := iprop(∃ f, planeAt (F := F) d r fullShare f)
/-- Plane `r` of device `d`, holding the maximum of the device `r` places on. -/
def planePts (d : Dev nD) (r : Fin 4) (q : PosShare TreeShare) : sProp 𝕄 := planeAt (F := F) d r q (allMax m d)

/-- The share of plane 0 that the `r`-th copy reads. -/
def shr (r : Fin 4) : PosShare TreeShare :=
  if r = 1 then fullShare.left else if r = 2 then fullShare.right.left else fullShare.right.right

instance slotPts_storable (d : Dev nD) (p f) : BI.Storable (upEmb : UEmb _ 𝕄) (slotPts (F := F) d p f) := by unfold slotPts; infer_instance
instance slotAny_storable (d : Dev nD) (p) : BI.Storable (upEmb : UEmb _ 𝕄) (slotAny (F := F) d p) := by unfold slotAny; infer_instance
instance slotHas_storable (d : Dev nD) (p v) : BI.Storable (upEmb : UEmb _ 𝕄) (slotHas (F := F) d p v) := by unfold slotHas; infer_instance
instance planeAt_storable (d : Dev nD) (r q f) : BI.Storable (upEmb : UEmb _ 𝕄) (planeAt (F := F) d r q f) := by unfold planeAt; infer_instance
instance planeAny_storable (d : Dev nD) (r) : BI.Storable (upEmb : UEmb _ 𝕄) (planeAny (F := F) d r) := by unfold planeAny; infer_instance
instance planePts_storable (d : Dev nD) (r q) : BI.Storable (upEmb : UEmb _ 𝕄) (planePts (F := F) m d r q) := by unfold planePts; infer_instance

/-! ## What is handed over -/

/-- From the right neighbour in round 0 of the barrier: its slot 1, its plane 3, its plane 2. -/
def openR (e : Dev nD) : sProp 𝕄 :=
  iprop(slotAny (F := F) (nxt e) 1 ∗ planeAny (F := F) (nxt e) 3 ∗ planeAny (F := F) (nxt e) 2)
/-- From the left neighbour in round 0 of the barrier: its plane 1. -/
def openL (e : Dev nD) : sProp 𝕄 := planeAny (F := F) (prv e) 1
/-- In round 1, plane 2 of the device two places on is passed on. -/
def pass (e : Dev nD) (k : ℕ) : sProp 𝕄 := if k = 1 then planeAny (F := F) (pl e 2) 2 else iprop(emp)
/-- From the right neighbour in round `k`: its slot for step `k`. -/
def barPay (e : Dev nD) (k : ℕ) : sProp 𝕄 :=
  iprop(slotAny (F := F) (nxt e) (qk k) ∗ reached ER (recvCell (nxt e) (qk k)) (rk k) ∗ pass (F := F) e k)
/-- The landing of step `k`. -/
def recvPay (e : Dev nD) (k : ℕ) : sProp 𝕄 :=
  iprop(slotHas e (qk k) (accAt m k (prv e)) ∗ reached ER (barCell (prv e)) (k + 1))

instance openR_storable (e : Dev nD) : BI.Storable (upEmb : UEmb _ 𝕄) (openR (F := F) e) := by unfold openR; infer_instance
instance openL_storable (e : Dev nD) : BI.Storable (upEmb : UEmb _ 𝕄) (openL (F := F) e) := by unfold openL; infer_instance
instance pass_storable (e : Dev nD) (k) : BI.Storable (upEmb : UEmb _ 𝕄) (pass (F := F) e k) := by unfold pass; split <;> infer_instance
instance barPay_storable (e : Dev nD) (k) : BI.Storable (upEmb : UEmb _ 𝕄) (barPay (F := F) e k) := by unfold barPay; infer_instance
instance recvPay_storable (e : Dev nD) (k) : BI.Storable (upEmb : UEmb _ 𝕄) (recvPay (F := F) m e k) := by unfold recvPay; infer_instance

/-- The duties of round `r` of the semaphore numbered `n`. -/
def dutiesN (n r : ℕ) : Finset Bool :=
  if n = 100 then (if r = 0 then Finset.univ else if r < 24 then {false} else ∅)
  else if n = 1 ∨ n = 4 then (if r < 16 then {false} else ∅)
  else if n = 2 ∨ n = 3 then (if r < 8 then {false} else ∅)
  else if n = 0 ∨ n = 5 ∨ n = 9 then ∅
  else if r = 0 then {false} else ∅

/-- The payload of round `r` of device `e`'s semaphore numbered `n`. -/
def payN (e : Dev nD) (n r : ℕ) (b : Bool) : sProp 𝕄 :=
  if n = 100 then (if r = 0 then (if b then openL (F := F) e else openR (F := F) e) else barPay (F := F) e r)
  else if n = 1 then slotAny (F := F) e 0
  else if n = 2 then slotAny (F := F) e 1
  else if n = 3 then recvPay m e (3 * r + 1)
  else if n = 4 then recvPay m e (3 * (r / 2) + 2 * (r % 2))
  else if n = 6 then planePts m e 0 (shr 1)
  else if n = 7 then planePts m e 0 (shr 2)
  else if n = 8 then planePts m e 0 (shr 3)
  else if n = 10 then planePts m e 1 fullShare
  else if n = 11 then planePts m e 2 fullShare
  else if n = 12 then planePts m e 3 fullShare
  else iprop(emp)

instance payN_storable (e : Dev nD) (n r : ℕ) (b : Bool) : BI.Storable (upEmb : UEmb _ 𝕄) (payN (F := F) m e n r b) := by
  unfold payN
  (repeat' split) <;> infer_instance

/-- The units of a semaphore's duty. -/
def amountN (n : ℕ) : ℕ := if n = 100 then 1 else if n < 5 then NS else NA

/-- The schedule. -/
def Rd : Rounds.Schedule (GSem nD τ sig) Bool 𝕄 where
  duties g r := dutiesN (code g.2) r
  unitless _ := False
  amount g _ _ := amountN (code g.2)
  payload g r b := payN m g.1.1 (code g.2) r b
  amount_pos g _ _ _ := by
    unfold amountN
    split
    · exact Nat.one_pos
    · split
      · exact NS_pos
      · exact NA_pos

instance Rd_storable (g : GSem nD τ sig) (r : ℕ) (b : Bool) :
    BI.Storable (upEmb : UEmb _ 𝕄) ((Rd (F := F) m).payload g r b) := by
  show BI.Storable upEmb (payN m g.1.1 (code g.2) r b); infer_instance

section Tables
variable (d : Dev nD)

theorem duties_bar0 : (Rd (F := F) m).duties (barCell d) 0 = Finset.univ := rfl
theorem duties_bar {k : ℕ} (h1 : 1 ≤ k) (h : k < 24) : (Rd (F := F) m).duties (barCell d) k = {false} := by
  show dutiesN 100 k = _
  unfold dutiesN; rw [if_pos rfl, if_neg (by omega), if_pos h]
theorem duties_send {k : ℕ} (h : k < 24) : (Rd (F := F) m).duties (sendCell d (pk k)) (rk k) = {false} := by
  show dutiesN (code (.dma (sendS (pk k)))) (rk k) = _
  rw [code_send]; revert h; revert k; decide
theorem duties_recv {k : ℕ} (h : k < 24) : (Rd (F := F) m).duties (recvCell d (qk k)) (rk k) = {false} := by
  show dutiesN (code (.dma (recvS (qk k)))) (rk k) = _
  rw [code_recv]; revert h; revert k; decide
theorem duties_asend {r : Fin 4} (h : r ≠ 0) : (Rd (F := F) m).duties (asendCell d r) 0 = {false} := by
  show dutiesN (code (.dma (asendS r))) 0 = _
  rw [code_asend]; revert h; revert r; decide
theorem duties_arecv {r : Fin 4} (h : r ≠ 0) : (Rd (F := F) m).duties (arecvCell d r) 0 = {false} := by
  show dutiesN (code (.dma (arecvS r))) 0 = _
  rw [code_arecv]; revert h; revert r; decide

theorem amount_bar (r : ℕ) (b : Bool) : (Rd (F := F) m).amount (barCell d) r b = 1 := rfl
theorem amount_send (p : Fin 2) (r : ℕ) (b : Bool) : (Rd (F := F) m).amount (sendCell d p) r b = NS := by
  show amountN (code (.dma (sendS p))) = _
  rw [code_send]; unfold amountN; rw [if_neg (by omega), if_pos (by omega)]
theorem amount_recv (p : Fin 2) (r : ℕ) (b : Bool) : (Rd (F := F) m).amount (recvCell d p) r b = NS := by
  show amountN (code (.dma (recvS p))) = _
  rw [code_recv]; unfold amountN; rw [if_neg (by omega), if_pos (by omega)]
theorem amount_asend (p : Fin 4) (r : ℕ) (b : Bool) : (Rd (F := F) m).amount (asendCell d p) r b = NA := by
  show amountN (code (.dma (asendS p))) = _
  rw [code_asend]; unfold amountN; rw [if_neg (by omega), if_neg (by omega)]
theorem amount_arecv (p : Fin 4) (r : ℕ) (b : Bool) : (Rd (F := F) m).amount (arecvCell d p) r b = NA := by
  show amountN (code (.dma (arecvS p))) = _
  rw [code_arecv]; unfold amountN; rw [if_neg (by omega), if_neg (by omega)]

theorem expect_bar0 : (Rd (F := F) m).expect (barCell d) 0 = 2 := by
  unfold Schedule.expect Schedule.amountOf
  rw [duties_bar0, Finset.sum_congr rfl fun b _ => amount_bar m d 0 b]; rfl
theorem expect_bar {k : ℕ} (h1 : 1 ≤ k) (h : k < 24) : (Rd (F := F) m).expect (barCell d) k = 1 := by
  unfold Schedule.expect Schedule.amountOf; rw [duties_bar m d h1 h, Finset.sum_singleton, amount_bar]
theorem expect_send {k : ℕ} (h : k < 24) : (Rd (F := F) m).expect (sendCell d (pk k)) (rk k) = NS := by
  unfold Schedule.expect Schedule.amountOf; rw [duties_send m d h, Finset.sum_singleton, amount_send]
theorem expect_recv {k : ℕ} (h : k < 24) : (Rd (F := F) m).expect (recvCell d (qk k)) (rk k) = NS := by
  unfold Schedule.expect Schedule.amountOf; rw [duties_recv m d h, Finset.sum_singleton, amount_recv]
theorem expect_asend {r : Fin 4} (h : r ≠ 0) : (Rd (F := F) m).expect (asendCell d r) 0 = NA := by
  unfold Schedule.expect Schedule.amountOf; rw [duties_asend m d h, Finset.sum_singleton, amount_asend]
theorem expect_arecv {r : Fin 4} (h : r ≠ 0) : (Rd (F := F) m).expect (arecvCell d r) 0 = NA := by
  unfold Schedule.expect Schedule.amountOf; rw [duties_arecv m d h, Finset.sum_singleton, amount_arecv]

theorem pay_bar0_true : (Rd (F := F) m).payload (barCell d) 0 true = openL d := rfl
theorem pay_bar0_false : (Rd (F := F) m).payload (barCell d) 0 false = openR d := rfl
theorem pay_bar {k : ℕ} (h1 : 1 ≤ k) (b : Bool) : (Rd (F := F) m).payload (barCell d) k b = barPay d k := by
  show payN m d 100 k b = _
  unfold payN; rw [if_pos rfl, if_neg (by omega)]

theorem pay_send (p : Fin 2) (r : ℕ) (b : Bool) : (Rd (F := F) m).payload (sendCell d p) r b = slotAny d p := by
  show payN m d (code (.dma (sendS p))) r b = _
  rw [code_send]
  fin_cases p <;> rfl
theorem pay_recv (k : ℕ) (b : Bool) : (Rd (F := F) m).payload (recvCell d (qk k)) (rk k) b = recvPay m d k := by
  show payN m d (code (.dma (recvS (qk k)))) (rk k) b = _
  rw [code_recv]
  by_cases h : k % 3 = 1
  · rw [show qk k = 0 from if_pos h, show rk k = k / 3 from if_pos h]
    show recvPay m d (3 * (k / 3) + 1) = _
    congr 1; omega
  · rw [show qk k = 1 from if_neg h, show rk k = 2 * (k / 3) + (k % 3) / 2 from if_neg h]
    show recvPay m d (3 * ((2 * (k / 3) + (k % 3) / 2) / 2) + 2 * ((2 * (k / 3) + (k % 3) / 2) % 2)) = _
    congr 1; omega
theorem pay_asend {r : Fin 4} (h : r ≠ 0) (b : Bool) : (Rd (F := F) m).payload (asendCell d r) 0 b = planePts m d 0 (shr r) := by
  show payN m d (code (.dma (asendS r))) 0 b = _
  rw [code_asend]
  fin_cases r
  · exact absurd rfl h
  all_goals rfl
theorem pay_arecv {r : Fin 4} (h : r ≠ 0) (b : Bool) : (Rd (F := F) m).payload (arecvCell d r) 0 b = planePts m d r fullShare := by
  show payN m d (code (.dma (arecvS r))) 0 b = _
  rw [code_arecv]
  fin_cases r
  · exact absurd rfl h
  all_goals rfl

end Tables

/-! ## What a device owes, and the levels -/

/-- The landings still owed to the right neighbour, from step `a` on. -/
def SR (d : Dev nD) (a : ℕ) : CellTallies nD τ sig ℕ := ∑ k ∈ Finset.Ico a 24, tallyAt (recvCell (nxt d) (qk k)) k NS
/-- The signals still owed to the left neighbour, from round `b` on. -/
def SB (d : Dev nD) (b : ℕ) : CellTallies nD τ sig ℕ := ∑ k ∈ Finset.Ico b 24, tallyAt (barCell (prv d)) k 1
/-- The landings of the maxima owed. -/
def OA (d : Dev nD) : CellTallies nD τ sig ℕ :=
  tallyAt (arecvCell (prv d) 1) 0 NA + tallyAt (arecvCell (pl d 2) 2) 0 NA + tallyAt (arecvCell (nxt d) 3) 0 NA
/-- What a device owes before its copy of step `a` and its signal of round `b`. -/
def O (d : Dev nD) (a b : ℕ) : CellTallies nD τ sig ℕ := OA d + SR d a + SB d b
/-- What a device owes at launch. -/
def O₀ (d : Dev nD) : CellTallies nD τ sig ℕ := O d 0 1 + tallyAt (barCell (nxt d)) 0 1 + tallyAt (barCell (prv d)) 0 1

theorem ico_cons {a : ℕ} (h : a < 24) : Finset.Ico a 24 = insert a (Finset.Ico (a + 1) 24) := by
  ext x; rw [Finset.mem_insert, Finset.mem_Ico, Finset.mem_Ico]; omega
theorem ico_notMem (a : ℕ) : a ∉ Finset.Ico (a + 1) 24 := by rw [Finset.mem_Ico]; omega

theorem O_recv (d : Dev nD) {a : ℕ} (b : ℕ) (h : a < 24) : O d a b = O d (a + 1) b + tallyAt (recvCell (nxt d) (qk a)) a NS := by
  unfold O SR
  rw [ico_cons h, Finset.sum_insert (ico_notMem _)]; ac_rfl
theorem O_bar (d : Dev nD) (a : ℕ) {b : ℕ} (h : b < 24) : O d a b = O d a (b + 1) + tallyAt (barCell (prv d)) b 1 := by
  unfold O SB
  rw [ico_cons h, Finset.sum_insert (ico_notMem _)]; ac_rfl
theorem O_end (d : Dev nD) : O d 24 24 = OA d := by
  unfold O SR SB
  rw [Finset.Ico_self, Finset.sum_empty, Finset.sum_empty, add_zero, add_zero]

/-- The indices of tallies. -/
def L (g : GSem nD τ sig) : Finset ℕ := if g.1.2 = .tc then Finset.range 24 else ∅
/-- The level of a tally. -/
def lv (g : GSem nD τ sig) (k : ℕ) : ℕ :=
  if code g.2 = 100 then 2 * k else if code g.2 = 3 ∨ code g.2 = 4 then 2 * k + 1 else if 9 ≤ code g.2 then 100 else 0

theorem L_tc (d : Dev nD) (s : SemLoc sig) : L (T d, s) = Finset.range 24 := if_pos rfl

theorem lv_bar (d : Dev nD) (k : ℕ) : lv (barCell d) k = 2 * k := rfl
theorem lv_recv (d : Dev nD) (p : Fin 2) (k : ℕ) : lv (recvCell d p) k = 2 * k + 1 := by
  unfold lv; rw [code_recv, if_neg (by omega), if_pos (by omega)]
theorem lv_send (d : Dev nD) (p : Fin 2) (k : ℕ) : lv (sendCell d p) k = 0 := by
  unfold lv; rw [code_send, if_neg (by omega), if_neg (by omega), if_neg (by omega)]
theorem lv_arecv (d : Dev nD) (r : Fin 4) (k : ℕ) : lv (arecvCell d r) k = 100 := by
  unfold lv; rw [code_arecv, if_neg (by omega), if_neg (by omega), if_pos (by omega)]
theorem lv_copy (d : Dev nD) (k : ℕ) : lv (T d, .dma copyS) k = 0 := rfl

theorem tally_pos {g g' : GSem nD τ sig} {i i' n : ℕ} (h : 0 < (tallyAt g i n : CellTallies nD τ sig ℕ) g' i') : g' = g ∧ i' = i := by
  rw [tallyAt_apply] at h
  by_contra hc
  rw [if_neg hc] at h
  exact Nat.lt_irrefl 0 h

theorem add_pos_cases {A B : CellTallies nD τ sig ℕ} {g : GSem nD τ sig} {i : ℕ} (h : 0 < (A + B) g i) : 0 < A g i ∨ 0 < B g i := by
  rw [Pi.add_apply, Finsupp.add_apply] at h; omega

theorem sum_pos_cases {s : Finset ℕ} {A : ℕ → CellTallies nD τ sig ℕ} {g : GSem nD τ sig} {i : ℕ} (h : 0 < (∑ k ∈ s, A k) g i) :
    ∃ k ∈ s, 0 < A k g i := by
  classical
  induction s using Finset.induction_on with
  | empty => rw [Finset.sum_empty] at h; exact absurd h (Nat.lt_irrefl 0)
  | insert a s ha ih =>
    rw [Finset.sum_insert ha] at h
    rcases add_pos_cases h with h | h
    · exact ⟨a, Finset.mem_insert_self _ _, h⟩
    · obtain ⟨k, hk, h⟩ := ih h
      exact ⟨k, Finset.mem_insert_of_mem hk, h⟩

/-- Where and how high a device's debts are. -/
theorem O_pos {d : Dev nD} {a b : ℕ} {g : GSem nD τ sig} {i : ℕ} (h : 0 < O d a b g i) :
    i ∈ L g ∧ (2 * a + 1 ≤ lv g i ∨ 2 * b ≤ lv g i ∨ 100 ≤ lv g i) := by
  rcases add_pos_cases h with h | h
  · rcases add_pos_cases h with h | h
    · rcases add_pos_cases h with h | h
      · rcases add_pos_cases h with h | h
        · obtain ⟨rfl, rfl⟩ := tally_pos h
          exact ⟨by rw [L_tc]; decide, .inr (.inr (lv_arecv _ _ _).ge)⟩
        · obtain ⟨rfl, rfl⟩ := tally_pos h
          exact ⟨by rw [L_tc]; decide, .inr (.inr (lv_arecv _ _ _).ge)⟩
      · obtain ⟨rfl, rfl⟩ := tally_pos h
        exact ⟨by rw [L_tc]; decide, .inr (.inr (lv_arecv _ _ _).ge)⟩
    · obtain ⟨k, hk, h⟩ := sum_pos_cases h
      obtain ⟨rfl, rfl⟩ := tally_pos h
      rw [Finset.mem_Ico] at hk
      refine ⟨by rw [L_tc]; exact Finset.mem_range.mpr hk.2, .inl ?_⟩
      rw [lv_recv]; omega
  · obtain ⟨k, hk, h⟩ := sum_pos_cases h
    obtain ⟨rfl, rfl⟩ := tally_pos h
    rw [Finset.mem_Ico] at hk
    refine ⟨by rw [L_tc]; exact Finset.mem_range.mpr hk.2, .inr (.inl ?_)⟩
    rw [lv_bar]; omega

/-- A device may wait below all its debts. -/
theorem mayWait (d : Dev nD) (s : SemLoc sig) (i a b : ℕ) (hi : i < 24) (h : lv (T d, s) i < min (2 * a + 1) (min (2 * b) 100)) :
    (levAts L lv : sProp 𝕄) ⊢ MayWait (T d) s i (O d a b) := by
  refine MayOwe.of_cut (L := L) (lev := lv) (lv (T d, s) i)
    (fun p hp => by rw [Finset.mem_singleton.mp hp, L_tc]; exact Finset.mem_range.mpr hi)
    (fun g u hg => (O_pos hg).1) (fun p hp => by rw [Finset.mem_singleton.mp hp])
    (fun g u hg => by
      have := (O_pos hg).2
      omega)

end Cert.KernelIdeal.Own

end
-- ==== Proof.Context.lean ====
/- What every step of a device's body may use: the invariants of all cells, that all cells have reached round 0, and the
   levels; and the rule for a local copy that is waited for at once. -/
module

public import proofs.«01_k».proof.Proof.Protocol

@[expose] public section

set_option maxRecDepth 65536

noncomputable section

namespace Cert.KernelIdeal.Own

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-! ## The cells together -/

/-- The semaphore of number `i`; number 0 is the barrier's. -/
def csem (i : Fin 13) : SemLoc sig := if i = 0 then .reg barS else .dma i
/-- A device's semaphore. -/
def kcell (x : Dev nD × Fin 13) : GSem nD τ sig := (T x.1, csem x.2)

theorem csem_injective : Function.Injective csem := by decide
theorem kcell_injective : Function.Injective kcell := fun a b h => by
  have h1 : a.1 = b.1 := congrArg (fun g => g.1.1) h
  have h2 : a.2 = b.2 := csem_injective (congrArg Prod.snd h)
  exact Prod.ext h1 h2

/-- All cells of the protocol. -/
def cells : Finset (GSem nD τ sig) := Finset.univ.map ⟨kcell, kcell_injective⟩

theorem kcell_mem (x) : kcell x ∈ cells := Finset.mem_map_of_mem _ (Finset.mem_univ x)
theorem bar_mem (d : Dev nD) : barCell d ∈ cells := kcell_mem (d, 0)
theorem send_mem (d : Dev nD) (p : Fin 2) : sendCell d p ∈ cells := by
  fin_cases p
  · exact kcell_mem (d, 1)
  · exact kcell_mem (d, 2)
theorem recv_mem (d : Dev nD) (p : Fin 2) : recvCell d p ∈ cells := by
  fin_cases p
  · exact kcell_mem (d, 3)
  · exact kcell_mem (d, 4)
theorem asend_mem (d : Dev nD) (r : Fin 4) : asendCell d r ∈ cells := by
  fin_cases r
  · exact kcell_mem (d, 5)
  · exact kcell_mem (d, 6)
  · exact kcell_mem (d, 7)
  · exact kcell_mem (d, 8)
theorem arecv_mem (d : Dev nD) (r : Fin 4) : arecvCell d r ∈ cells := by
  fin_cases r
  · exact kcell_mem (d, 9)
  · exact kcell_mem (d, 10)
  · exact kcell_mem (d, 11)
  · exact kcell_mem (d, 12)

variable (m : (ℓ : Loc nD τ sig) → Buf (Elt F) ℓ)

/-- The invariants of all cells, round 0 reached everywhere, the levels. -/
def ctx (K : GSem nD τ sig → ℕ) : sProp 𝕄 :=
  iprop(bigSep cells (fun g => cellInv ER (Rd (F := F) m) (K g) g) ∗ bigSep cells (fun g => reached ER g 0) ∗ levAts L lv)

instance ctx_persistent (K : GSem nD τ sig → ℕ) : BI.Persistent (ctx (F := F) m K) := by unfold ctx; infer_instance

theorem invs_at (K : GSem nD τ sig → ℕ) {g : GSem nD τ sig} (h : g ∈ cells) :
    (bigSep cells fun g => (cellInv ER (Rd (F := F) m) (K g) g : sProp 𝕄)) ⊢ cellInv ER (Rd (F := F) m) (K g) g := bigSep_elim h
theorem reached_at {g : GSem nD τ sig} (h : g ∈ cells) :
    (bigSep cells fun g => (reached ER g 0 : sProp 𝕄)) ⊢ reached ER g 0 := bigSep_elim h

theorem ctx_inv (K : GSem nD τ sig → ℕ) {g : GSem nD τ sig} (h : g ∈ cells) : ctx (F := F) m K ⊢ cellInv ER (Rd (F := F) m) (K g) g := by
  unfold ctx
  iintro ⟨H, -⟩
  iapply (invs_at m K h)
  iexact H
theorem ctx_reached (K : GSem nD τ sig → ℕ) {g : GSem nD τ sig} (h : g ∈ cells) : ctx (F := F) m K ⊢ reached ER g 0 := by
  unfold ctx
  iintro ⟨-, H, -⟩
  iapply (reached_at h)
  iexact H
theorem ctx_lev (K : GSem nD τ sig → ℕ) : ctx (F := F) m K ⊢ levAts L lv := by
  unfold ctx
  iintro ⟨-, -, H⟩
  iexact H

/-- What a device owes, whatever it has waited for. -/
def owe (d : Dev nD) (A : CellTallies nD τ sig ℕ) : sProp 𝕄 := iprop(∃ W, owes (T d) A W)

/-- No variants. -/
abbrev 𝒱₀ : Variants := Variants.none

/-- A device's program runs to `Q`. -/
abbrev Run (d : Dev nD) {α : Type} (p : BProg F α) (Q : α → sProp 𝕄) : sProp 𝕄 :=
  wp frame (wpE (defs₀ (F := F)) 𝒱₀ (T d) none) Set.univ p Q

/-- A device that owes `A` may wait for a local copy. -/
abbrev CopyOk (d : Dev nD) (A : CellTallies nD τ sig ℕ) : Prop := (levAts L lv : sProp 𝕄) ⊢ MayWait (T d) (.dma copyS) 0 A

theorem copyOk_O (d : Dev nD) (a : ℕ) {b : ℕ} (hb : 1 ≤ b) : CopyOk (F := F) d (O d a b) :=
  mayWait d (.dma copyS) 0 a b (by decide) (by rw [lv_copy]; omega)
theorem copyOk_zero (d : Dev nD) : CopyOk (F := F) d 0 := by
  show (levAts L lv : sProp 𝕄) ⊢ MayWait (T d) (.dma copyS) 0 0
  rw [MayWait_zero]; iintro -; iempintro

section Copy

/-- A local copy, waited for at once. -/
theorem run_copy {α : Type} {Q : α → sProp 𝕄} {sp sp' : Space} {s : Shape} {e : EltTy} (K : GSem nD τ sig → ℕ) (d : Dev nD) (A : CellTallies nD τ sig ℕ) (hA : CopyOk (F := F) d A)
    {src : Memref sig .tc sp s e} {dst : Memref sig .tc sp' s e}
    {hsrc : src.view.WordExact} {hdst : dst.view.WordExact} {hsem : DmaTarget.Typed (nD := nD) (τ := τ) (p := .tc) sp (.dma copyS) (.here dst)}
    {hsrc' : src.view.WordExact} {hdst' : dst.view.WordExact}
    {k : PUnit → BProg F α} {q : PosShare TreeShare} {Ss : Finset (Idx (src.view.loc (T d)))} {fs : Buf (Elt F) (src.view.loc (T d))}
    {Sd : Finset (Idx (dst.view.loc (T d)))} {fd : Buf (Elt F) (dst.view.loc (T d))}
    (hSs : src.view.set ⊆ Ss) (hSd : dst.view.set ⊆ Sd) (hN : 0 < s.numel) :
    iprop(ctx m K ∗ owe (F := F) d A ∗ (src.view.loc (T d) ↦[Ss]{q} fs) ∗ (dst.view.loc (T d) ↦[Sd]{fullShare} fd)
        ∗ semVal (T d, .dma copyS) 0)
      ⊢ iprop(((owe (F := F) d A ∗ (src.view.loc (T d) ↦[Ss]{q} fs)
            ∗ (dst.view.loc (T d) ↦[Sd]{fullShare} (dst.view.write (Elt F) fd (src.view.read (Elt F) fs) Finset.univ))
            ∗ semVal (T d, .dma copyS) 0) -∗ Run d (k ⟨⟩) Q)
        -∗ Run d (.op (.enqueueDma src (.here dst) (.dma copyS) hsrc hdst hsem) fun _ => .op (.waitDma2 copyS src dst hsrc' hdst') k) Q) := by
  unfold owe
  iintro ⟨#Hctx, ⟨%W, HO⟩, Hs, Hd, Hz⟩ Hk
  ihave Hs2 := (pointsTo_split_subset hSs).1 $$ Hs
  icases Hs2 with ⟨Hs, Hrest⟩
  iapply (Transfers.wp_dmaLocal countersEmb 𝒱₀ (T d) none 0 (dst.view.dmaCredit) rfl (View.dmaCredit_pos _ hN) hSd) $$ [Hs Hd Hz]
  · isplitl [Hs]; · iexact Hs
    isplitl [Hd]; · iexact Hd
    iexact Hz
  iintro Hfl
  iapply (Transfers.wp_waitLocalO countersEmb 𝒱₀ (T d) none 0 rfl) $$ [Hfl HO]
  · isplitl [Hfl]; · iexact Hfl
    isplitl [HO]; · iexact HO
    iapply hA
    iapply (ctx_lev m K) $$ Hctx
  iintro ⟨⟨Hd, Hs⟩, Hz, HO⟩
  iapply Hk
  isplitl [HO]; · iexists _; iexact HO
  isplitl [Hs Hrest]
  · iapply (pointsTo_split_subset hSs).2
    isplitl [Hs]; · iexact Hs
    iexact Hrest
  isplitl [Hd]; · iexact Hd
  iexact Hz

end Copy

end Cert.KernelIdeal.Own

end
-- ==== Proof.Local.lean ====
/- The steps of a device's body that touch nothing but its own memory: the copies in and out, the block products on the
   slots, the quantising of a chunk. -/
module

public import proofs.«01_k».proof.Proof.Context

@[expose] public section

set_option maxRecDepth 65536

noncomputable section

namespace Cert.KernelIdeal.Own

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

/-! ## Buffers held whole -/

/-- The first argument, as at launch. -/
def a0Pts (d : Dev nD) : sProp 𝕄 := (T d).loc main_arg0 ↦{fullShare} m ((T d).loc main_arg0)
/-- The second argument, as at launch. -/
def a1Pts (d : Dev nD) : sProp 𝕄 := (T d).loc main_arg1 ↦{fullShare} m ((T d).loc main_arg1)
/-- The result's buffer. -/
def outPts (d : Dev nD) (g : (main_v1 : Ref sig .tc).ty.Contents (Elt F)) : sProp 𝕄 := (T d).loc main_v1 ↦{fullShare} g
/-- The copy of the first argument. -/
def xPts (d : Dev nD) : sProp 𝕄 := (T d).loc cc0_scratch0 ↦{fullShare} xb m d
/-- The copy of chunk `j` of the second argument. -/
def wPts (d : Dev nD) (j : Fin 8) : sProp 𝕄 :=
  (T d).loc cc0_scratch1 ↦{fullShare} (wb m d j : (cc0_scratch1 : Ref sig .tc).ty.Contents (Elt F))
/-- The buffer of the second argument's chunks, whatever it holds. -/
def wAny (d : Dev nD) : sProp 𝕄 := iprop(∃ f : (cc0_scratch1 : Ref sig .tc).ty.Contents (Elt F), (T d).loc cc0_scratch1 ↦{fullShare} f)
/-- The semaphore of the local copies at rest. -/
def copyZ (d : Dev nD) : sProp 𝕄 := semVal (T d, .dma copyS) 0

variable {α : Type} (K : GSem nD τ sig → ℕ) (d : Dev nD) (A : CellTallies nD τ sig ℕ)

theorem run_loadX {Q : α → sProp 𝕄} {k : PUnit → BProg F α} (hA : CopyOk (F := F) d A) (f0 : (cc0_scratch0 : Ref sig .tc).ty.Contents (Elt F)) :
    iprop(ctx m K ∗ owe (F := F) d A ∗ a0Pts m d ∗ ((T d).loc cc0_scratch0 ↦{fullShare} f0) ∗ copyZ (F := F) d)
      ⊢ iprop(((owe (F := F) d A ∗ a0Pts m d ∗ xPts m d ∗ copyZ (F := F) d) -∗ Run d (k ⟨⟩) Q) -∗ Run d (loadX >>= k) Q) := by
  simp only [loadX, Prog.lift, Prog.bind_op, Prog.bind_ret]
  unfold a0Pts xPts copyZ
  iintro ⟨#Hc, HO, Ha, Hx, Hz⟩ Hk
  iapply (run_copy m K d A hA (src := Memref.whole main_arg0) (dst := Memref.whole cc0_scratch0) (Finset.subset_univ _) (Finset.subset_univ _) (by decide)) $$ [HO Ha Hx Hz]
  · isplitr; · iexact Hc
    isplitl [HO]; · iexact HO
    isplitl [Ha]; · iexact Ha
    isplitl [Hx]; · iexact Hx
    iexact Hz
  iintro ⟨HO, Ha, Hx, Hz⟩
  iapply Hk
  isplitl [HO]; · iexact HO
  isplitl [Ha]; · iexact Ha
  isplitl [Hx]
  · rw [show (Memref.whole cc0_scratch0 : Memref sig .tc _ _ _).view.write (Elt F) f0
      ((Memref.whole main_arg0 : Memref sig .tc _ _ _).view.read (Elt F) (m ((T d).loc main_arg0))) Finset.univ = xb m d from
        View.write_whole_univ _ _ _]
    iexact Hx
  iexact Hz

theorem run_loadW {Q : α → sProp 𝕄} {k : PUnit → BProg F α} (hA : CopyOk (F := F) d A) (j : Fin 8) :
    iprop(ctx m K ∗ owe (F := F) d A ∗ a1Pts m d ∗ wAny (F := F) d ∗ copyZ (F := F) d)
      ⊢ iprop(((owe (F := F) d A ∗ a1Pts m d ∗ wPts m d j ∗ copyZ (F := F) d) -∗ Run d (k ⟨⟩) Q) -∗ Run d (loadW j >>= k) Q) := by
  simp only [loadW, Prog.lift, Prog.bind_op, Prog.bind_ret]
  unfold a1Pts wPts wAny copyZ
  iintro ⟨#Hc, HO, Ha, ⟨%f0, Hx⟩, Hz⟩ Hk
  iapply (run_copy m K d A hA (src := wM j) (dst := Memref.whole cc0_scratch1) (Finset.subset_univ _) (Finset.subset_univ _) (by decide)) $$ [HO Ha Hx Hz]
  · isplitr; · iexact Hc
    isplitl [HO]; · iexact HO
    isplitl [Ha]; · iexact Ha
    isplitl [Hx]; · iexact Hx
    iexact Hz
  iintro ⟨HO, Ha, Hx, Hz⟩
  iapply Hk
  isplitl [HO]; · iexact HO
  isplitl [Ha]; · iexact Ha
  isplitl [Hx]
  · rw [show (Memref.whole cc0_scratch1 : Memref sig .tc _ _ _).view.write (Elt F) f0
      ((wM j).view.read (Elt F) (m ((T d).loc main_arg1))) Finset.univ = wb m d j from View.write_whole_univ _ _ _]
    iexact Hx
  iexact Hz

theorem wPts_any (j : Fin 8) : wPts m d j ⊢ wAny (F := F) d := by
  unfold wPts wAny; iintro H; iexists _; iexact H

theorem slotHas_any (p : Fin 2) (v : FVec F S1x1024x1024 .f32) : slotHas (F := F) d p v ⊢ slotAny (F := F) d p := by
  unfold slotHas slotAny; iintro ⟨%f, H, -⟩; iexists f; iexact H

/-! ## Loads and stores -/

theorem slot_set (p : Fin 2) : (slotA p).set = (slotM p).view.set := (View.set_reshape _ _).symm

/-- A load of a slot. -/
theorem run_rdSlot {Q : α → sProp 𝕄} {k : Vec F S1x1024x1024 .f32 → BProg F α} (p : Fin 2)
    (v : FVec F S1x1024x1024 .f32) :
    slotHas (F := F) d p v ⊢ iprop((slotHas (F := F) d p v -∗ Run d (k v) Q) -∗ Run d (rdSlot p >>= k) Q) := by
  simp only [rdSlot, Prog.lift, Prog.bind_op, Prog.bind_ret]
  unfold slotHas slotPts
  iintro ⟨%f, Hs, %hf⟩ Hk
  iapply (wp_load_rect 𝒱₀ (T d) none Set.univ (m := Memref.whole cc0_scratch2) (r := slotR p) (slot_set p).le) $$ Hs
  iintro Hs
  rw [hf]
  iapply Hk
  iexists f
  isplitl [Hs]; · iexact Hs
  ipureintro; exact hf

/-- A load of a slot, whatever it holds. -/
theorem run_rdSlot_any {Q : α → sProp 𝕄} {k : Vec F S1x1024x1024 .f32 → BProg F α} (p : Fin 2) :
    slotAny (F := F) d p ⊢ iprop((∀ v, slotAny (F := F) d p -∗ Run d (k v) Q) -∗ Run d (rdSlot p >>= k) Q) := by
  simp only [rdSlot, Prog.lift, Prog.bind_op, Prog.bind_ret]
  unfold slotAny slotPts
  iintro ⟨%f, Hs⟩ Hk
  iapply (wp_load_rect 𝒱₀ (T d) none Set.univ (m := Memref.whole cc0_scratch2) (r := slotR p) (slot_set p).le) $$ Hs
  iintro Hs
  iapply Hk
  iexists f
  iexact Hs

/-- A store over a slot. -/
theorem run_wrSlot {Q : α → sProp 𝕄} {k : PUnit → BProg F α} (p : Fin 2) (v : FVec F S1x1024x1024 .f32) :
    slotAny (F := F) d p ⊢ iprop((slotHas (F := F) d p v -∗ Run d (k ⟨⟩) Q) -∗ Run d (wrSlot p v >>= k) Q) := by
  simp only [wrSlot, Prog.lift, Prog.bind_op, Prog.bind_ret]
  unfold slotAny slotHas slotPts
  iintro ⟨%f, Hs⟩ Hk
  iapply (wp_store 𝒱₀ (T d) none Set.univ (m := Memref.whole cc0_scratch2) (r := slotR p) (Mk := Finset.univ)
    (by rw [View.setOn_univ]; exact (slot_set p).le)) $$ Hs
  iintro Hs
  iapply Hk
  iexists _
  isplitl [Hs]; · iexact Hs
  ipureintro; exact View.read_write_univ _ _

/-- A load of rows of the first argument's copy. -/
theorem run_rdX {Q : α → sProp 𝕄} {k : Vec F S1024x1024 .f32 → BProg F α} (off : Fin 2 → ℕ) (h) :
    xPts m d ⊢ iprop((xPts m d -∗ Run d (k (((Memref.whole cc0_scratch0).access
      (Rect.unit (s := S4096x1024) off S1024x1024.size h)).read (Elt F) (xb m d))) Q) -∗ Run d (rdX off h >>= k) Q) := by
  simp only [rdX, Prog.lift, Prog.bind_op, Prog.bind_ret]
  unfold xPts
  iintro H Hk
  iapply (wp_load_rect 𝒱₀ (T d) none Set.univ (m := Memref.whole cc0_scratch0)
    (r := Rect.unit (s := S4096x1024) off S1024x1024.size h) (Finset.subset_univ _)) $$ H
  iintro H
  iapply Hk; iexact H

theorem zero2 : (![0, 0] : Fin 2 → ℕ) = fun _ => 0 := funext fun a => by fin_cases a <;> rfl

/-- A load of the second argument's chunk. -/
theorem run_rdW {Q : α → sProp 𝕄} {k : Vec F S1024x1024 .f32 → BProg F α} (j : Fin 8) :
    wPts m d j ⊢ iprop((wPts m d j -∗ Run d (k (wb m d j)) Q) -∗ Run d (rdW >>= k) Q) := by
  simp only [rdW, Prog.lift, Prog.bind_op, Prog.bind_ret]
  unfold wPts
  iintro H Hk
  iapply (wp_load 𝒱₀ (T d) none Set.univ (m := Memref.whole cc0_scratch1) (Finset.subset_univ _)) $$ H
  iintro H
  rw [show View.readAt (Elt F) (Memref.whole cc0_scratch1).view
      (Rect.unit (s := S1024x1024) ![0, 0] S1024x1024.size inb_S1024x1024_S1024x1024_0_0).toLoadRect (wb m d j) = wb m d j from
        Memref.readAt_unit_zero (Elt F) cc0_scratch1 zero2 _ _]
  iapply Hk; iexact H

/-! ## The block products -/

theorem run_firstP {Q : α → sProp 𝕄} {k : PUnit → BProg F α} (j : Fin 8) :
    iprop(xPts m d ∗ wPts m d j ∗ slotAny (F := F) d 0)
      ⊢ iprop(((xPts m d ∗ wPts m d j ∗ slotHas (F := F) d 0 (acc0 m d j)) -∗ Run d (k ⟨⟩) Q) -∗ Run d (firstP d >>= k) Q) := by
  simp only [firstP, bind_assoc]
  iintro ⟨Hx, Hw, Hs⟩ Hk
  iapply (run_rdX m d (k0_off1 d) (k0_off1_inb d)) $$ Hx; iintro Hx
  iapply (run_rdW m d j) $$ Hw; iintro Hw
  iapply (run_rdSlot_any d 0) $$ Hs; iintro %v Hs
  iapply (run_wrSlot d 0) $$ Hs; iintro Hs
  iapply Hk
  isplitl [Hx]; · iexact Hx
  isplitl [Hw]; · iexact Hw
  iexact Hs

theorem run_accum {Q : α → sProp 𝕄} {k : PUnit → BProg F α} (j : Fin 8) (s : Fin 3) (q : Fin 2) (v : FVec F S1x1024x1024 .f32) :
    iprop(xPts m d ∗ wPts m d j ∗ slotHas (F := F) d q v)
      ⊢ iprop(((xPts m d ∗ wPts m d j ∗ slotHas (F := F) d q (toSlot (plus v (xrow2 m d s) (wb m d j)))) -∗ Run d (k ⟨⟩) Q)
        -∗ Run d (accum d s q >>= k) Q) := by
  simp only [accum, bind_assoc]
  iintro ⟨Hx, Hw, Hs⟩ Hk
  iapply (run_rdSlot d q v) $$ Hs; iintro Hs
  iapply (run_rdX m d (k0_off2 d (BitVec.ofNat 32 s.val)) (k0_off2_inb d s)) $$ Hx; iintro Hx
  iapply (run_rdW m d j) $$ Hw; iintro Hw
  iapply (run_rdSlot d q v) $$ Hs; iintro Hs
  ihave Hs := (slotHas_any d q v) $$ Hs
  iapply (run_wrSlot d q) $$ Hs; iintro Hs
  iapply Hk
  isplitl [Hx]; · iexact Hx
  isplitl [Hw]; · iexact Hw
  iexact Hs

theorem run_finish {Q : α → sProp 𝕄} {k : F .f32 → BProg F α} (j : Fin 8) (am : F .f32) :
    iprop(xPts m d ∗ wPts m d j ∗ slotHas (F := F) d 1 (acc2 m (prv d) j))
      ⊢ iprop(((xPts m d ∗ wPts m d j ∗ slotHas (F := F) d 1 (toSlot (fin m d j))) -∗ Run d (k (amaxOf am (fin m d j))) Q)
        -∗ Run d (finish d am >>= k) Q) := by
  simp only [finish, bind_assoc, pure_bind]
  iintro ⟨Hx, Hw, Hs⟩ Hk
  iapply (run_rdSlot d 1) $$ Hs; iintro Hs
  iapply (run_rdX m d (k0_off2 d 2#32) (k0_off2_inb d 2)) $$ Hx; iintro Hx
  iapply (run_rdW m d j) $$ Hw; iintro Hw
  iapply (run_rdSlot d 1) $$ Hs; iintro Hs
  ihave Hs := (slotHas_any d 1 _) $$ Hs
  iapply (run_wrSlot d 1) $$ Hs; iintro Hs
  iapply Hk
  isplitl [Hx]; · iexact Hx
  isplitl [Hw]; · iexact Hw
  iexact Hs

/-! ## Chunks in and out -/

theorem run_outC {Q : α → sProp 𝕄} {k : PUnit → BProg F α} (hA : CopyOk (F := F) d A) (j : Fin 8) (p : Fin 2) (v : FVec F S1x1024x1024 .f32)
    (g : (main_v1 : Ref sig .tc).ty.Contents (Elt F)) :
    iprop(ctx m K ∗ owe (F := F) d A ∗ slotHas (F := F) d p v ∗ outPts d g ∗ copyZ (F := F) d)
      ⊢ iprop(((owe (F := F) d A ∗ slotHas (F := F) d p v ∗ outPts d ((outM j).view.write (Elt F) g (ofSlot v) Finset.univ) ∗ copyZ (F := F) d)
          -∗ Run d (k ⟨⟩) Q) -∗ Run d (outC j p >>= k) Q) := by
  simp only [outC, Prog.lift, Prog.bind_op, Prog.bind_ret]
  unfold slotHas slotPts outPts copyZ
  iintro ⟨#Hc, HO, ⟨%f, Hs, %hf⟩, Ho, Hz⟩ Hk
  iapply (run_copy m K d A hA (src := slotM p) (dst := outM j) (Finset.Subset.refl _) (Finset.subset_univ _) (by decide)) $$ [HO Hs Ho Hz]
  · isplitr; · iexact Hc
    isplitl [HO]; · iexact HO
    isplitl [Hs]; · iexact Hs
    isplitl [Ho]; · iexact Ho
    iexact Hz
  iintro ⟨HO, Hs, Ho, Hz⟩
  iapply Hk
  isplitl [HO]; · iexact HO
  isplitl [Hs]
  · iexists f
    isplitl [Hs]; · iexact Hs
    ipureintro; exact hf
  isplitl [Ho]
  · rw [read_slotM, hf]
    iexact Ho
  iexact Hz

theorem run_inC {Q : α → sProp 𝕄} {k : PUnit → BProg F α} (hA : CopyOk (F := F) d A) (j : Fin 8) (p : Fin 2)
    (g : (main_v1 : Ref sig .tc).ty.Contents (Elt F)) :
    iprop(ctx m K ∗ owe (F := F) d A ∗ slotAny (F := F) d p ∗ outPts d g ∗ copyZ (F := F) d)
      ⊢ iprop(((owe (F := F) d A ∗ slotHas (F := F) d p (toSlot ((outM j).view.read (Elt F) g)) ∗ outPts d g ∗ copyZ (F := F) d)
          -∗ Run d (k ⟨⟩) Q) -∗ Run d (inC j p >>= k) Q) := by
  simp only [inC, Prog.lift, Prog.bind_op, Prog.bind_ret]
  unfold slotHas slotAny slotPts outPts copyZ
  iintro ⟨#Hc, HO, ⟨%f, Hs⟩, Ho, Hz⟩ Hk
  iapply (run_copy m K d A hA (src := outM j) (dst := slotM p) (Finset.subset_univ _) (Finset.Subset.refl _) (by decide)) $$ [HO Hs Ho Hz]
  · isplitr; · iexact Hc
    isplitl [HO]; · iexact HO
    isplitl [Ho]; · iexact Ho
    isplitl [Hs]; · iexact Hs
    iexact Hz
  iintro ⟨HO, Ho, Hs, Hz⟩
  iapply Hk
  isplitl [HO]; · iexact HO
  isplitl [Hs]
  · iexists _
    isplitl [Hs]; · iexact Hs
    ipureintro; exact read_write_slotM p _ _
  isplitl [Ho]; · iexact Ho
  iexact Hz

theorem run_quant {Q : α → sProp 𝕄} {k : PUnit → BProg F α} (hA : CopyOk (F := F) d A) (j : Fin 8) (sc inv : F .f32)
    (g : (main_v1 : Ref sig .tc).ty.Contents (Elt F)) :
    iprop(ctx m K ∗ owe (F := F) d A ∗ slotAny (F := F) d 0 ∗ outPts d g ∗ copyZ (F := F) d)
      ⊢ iprop(((owe (F := F) d A ∗ slotAny (F := F) d 0
            ∗ outPts d ((outM j).view.write (Elt F) g (quantM sc inv ((outM j).view.read (Elt F) g)) Finset.univ) ∗ copyZ (F := F) d)
          -∗ Run d (k ⟨⟩) Q) -∗ Run d (quant sc inv j >>= k) Q) := by
  simp only [quant, bind_assoc]
  iintro ⟨#Hc, HO, Hs, Ho, Hz⟩ Hk
  iapply (run_inC m K d A hA j 0 g) $$ [HO Hs Ho Hz]
  · isplitr; · iexact Hc
    isplitl [HO]; · iexact HO
    isplitl [Hs]; · iexact Hs
    isplitl [Ho]; · iexact Ho
    iexact Hz
  iintro ⟨HO, Hs, Ho, Hz⟩
  iapply (run_rdSlot d 0) $$ Hs; iintro Hs
  iapply (run_rdSlot d 0) $$ Hs; iintro Hs
  ihave Hs := (slotHas_any d 0 _) $$ Hs
  iapply (run_wrSlot d 0) $$ Hs; iintro Hs
  rw [quantV_eq, ofSlot_toSlot]
  iapply (run_outC m K d A hA j 0 _ g) $$ [HO Hs Ho Hz]
  · isplitr; · iexact Hc
    isplitl [HO]; · iexact HO
    isplitl [Hs]; · iexact Hs
    isplitl [Ho]; · iexact Ho
    iexact Hz
  rw [ofSlot_toSlot]
  iintro ⟨HO, Hs, Ho, Hz⟩
  iapply Hk
  isplitl [HO]; · iexact HO
  isplitl [Hs]; · iapply (slotHas_any d 0 _) $$ Hs
  isplitl [Ho]; · iexact Ho
  iexact Hz

end Cert.KernelIdeal.Own

end
-- ==== Proof.Steps.lean ====
/- One step of the ring: the handshake on the barrier semaphore, and the transfer to the right neighbour with the landing
   from the left one. Both are stated for a symbolic step number. -/
module

public import proofs.«01_k».proof.Proof.Local

@[expose] public section

set_option maxRecDepth 65536

noncomputable section

namespace Cert.KernelIdeal.Own

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

/-! ## What a device holds between steps -/

/-- A device's place on one of its cells. -/
def place (g : GSem nD τ sig) (r : ℕ) : sProp 𝕄 := iprop(atPos ER g r ∅ 0 ∗ reached ER g r)

/-- The barrier rounds still to come: the token to free the left neighbour, the credit of the right one's signal. -/
def stB (d : Dev nD) (k : ℕ) : sProp 𝕄 :=
  bigSep (Finset.Ico k 24) fun i => iprop(dutyTok ER (barCell (prv d)) i false ∗ cred (tallyAt (barCell d) i 1))

/-- The transfers still to come: the tokens of both ends, the credit of the landing. -/
def stX (d : Dev nD) (k : ℕ) : sProp 𝕄 :=
  bigSep (Finset.Ico k 24) fun i => iprop(dutyTok ER (sendCell d (pk i)) (rk i) false
    ∗ dutyTok ER (recvCell (nxt d) (qk i)) (rk i) false ∗ cred (tallyAt (recvCell d (qk i)) i NS))

/-- How many of the first `k` steps go from slot 0 to slot 1, and from slot 1 to slot 0. -/
def n0 (k : ℕ) : ℕ := 2 * (k / 3) + (if k % 3 = 0 then 0 else 1)
@[inherit_doc n0] def n1 (k : ℕ) : ℕ := k / 3 + (if k % 3 = 2 then 1 else 0)

/-- The places on the four ring cells after `k` steps. -/
def stP (d : Dev nD) (k : ℕ) : sProp 𝕄 :=
  iprop(place (F := F) (sendCell d 0) (n0 k) ∗ place (F := F) (recvCell d 1) (n0 k)
    ∗ place (F := F) (sendCell d 1) (n1 k) ∗ place (F := F) (recvCell d 0) (n1 k))

/-- The landing plane of the device two places on: with the right neighbour's until round 1 of the barrier, then own. -/
def ext (d : Dev nD) (b : ℕ) : sProp 𝕄 := planeAny (F := F) (if b ≤ 1 then nxt d else pl d 2) 2

/-- Before the transfer of step `k`. -/
def Ready (d : Dev nD) (k : ℕ) : sProp 𝕄 :=
  iprop(owe (F := F) d (O d k (k + 1)) ∗ stB (F := F) d (k + 1) ∗ place (F := F) (barCell d) (k + 1) ∗ stX (F := F) d k ∗ stP (F := F) d k
    ∗ slotAny (F := F) (nxt d) (qk k) ∗ reached ER (recvCell (nxt d) (qk k)) (rk k) ∗ ext (F := F) d (k + 1))

/-- After it. -/
def Sent (d : Dev nD) (k : ℕ) : sProp 𝕄 :=
  iprop(owe (F := F) d (O d (k + 1) (k + 1)) ∗ stB (F := F) d (k + 1) ∗ place (F := F) (barCell d) (k + 1) ∗ stX (F := F) d (k + 1)
    ∗ stP (F := F) d (k + 1) ∗ reached ER (barCell (prv d)) (k + 1) ∗ ext (F := F) d (k + 1))

theorem stB_cons (d : Dev nD) {k : ℕ} (h : k < 24) :
    stB (F := F) d k = iprop((dutyTok ER (barCell (prv d)) k false ∗ cred (tallyAt (barCell d) k 1)) ∗ stB (F := F) d (k + 1)) := by
  unfold stB; rw [ico_cons h, bigSep_insert (ico_notMem k)]; rfl

theorem stX_cons (d : Dev nD) {k : ℕ} (h : k < 24) :
    stX (F := F) d k = iprop((dutyTok ER (sendCell d (pk k)) (rk k) false
    ∗ dutyTok ER (recvCell (nxt d) (qk k)) (rk k) false ∗ cred (tallyAt (recvCell d (qk k)) k NS)) ∗ stX (F := F) d (k + 1)) := by
  unfold stX; rw [ico_cons h, bigSep_insert (ico_notMem k)]; rfl

/-- The places of step `k`'s cells out of the four, and back in. -/
theorem stP_split (d : Dev nD) (k : ℕ) :
    stP (F := F) d k ⊢ iprop(place (F := F) (sendCell d (pk k)) (rk k) ∗ place (F := F) (recvCell d (qk k)) (rk k)
      ∗ ((place (F := F) (sendCell d (pk k)) (rk k + 1) ∗ place (F := F) (recvCell d (qk k)) (rk k + 1)) -∗ stP (F := F) d (k + 1))) := by
  unfold stP
  by_cases h : k % 3 = 1
  · rw [show pk k = 1 from if_pos h, show qk k = 0 from if_pos h, show rk k = n1 k by unfold rk n1; rw [if_pos h, if_neg (by omega)]; omega,
      show n0 (k + 1) = n0 k by unfold n0; rw [if_neg (by omega), if_neg (by omega)]; omega,
      show n1 (k + 1) = n1 k + 1 by unfold n1; rw [if_pos (by omega), if_neg (by omega)]; omega]
    iintro ⟨H1, H2, H3, H4⟩
    isplitl [H3]; · iexact H3
    isplitl [H4]; · iexact H4
    iintro ⟨H3, H4⟩
    isplitl [H1]; · iexact H1
    isplitl [H2]; · iexact H2
    isplitl [H3]; · iexact H3
    iexact H4
  · rw [show pk k = 0 from if_neg h, show qk k = 1 from if_neg h,
      show rk k = n0 k by unfold rk n0; rw [if_neg h]; split <;> omega,
      show n0 (k + 1) = n0 k + 1 by unfold n0; split <;> split <;> omega,
      show n1 (k + 1) = n1 k by unfold n1; split <;> split <;> omega]
    iintro ⟨H1, H2, H3, H4⟩
    isplitl [H1]; · iexact H1
    isplitl [H2]; · iexact H2
    iintro ⟨H1, H2⟩
    isplitl [H1]; · iexact H1
    isplitl [H2]; · iexact H2
    isplitl [H3]; · iexact H3
    iexact H4

variable {α : Type} (K : GSem nD τ sig → ℕ) (d : Dev nD)

theorem stP_recv (k : ℕ) : stP (F := F) d k ⊢ iprop(reached ER (recvCell d (qk k)) (rk k) ∗ stP (F := F) d k) := by
  unfold stP place
  by_cases h : k % 3 = 1
  · rw [show qk k = 0 from if_pos h, show rk k = n1 k by unfold rk n1; rw [if_pos h, if_neg (by omega)]; omega]
    iintro ⟨H1, H2, H3, ⟨H4, #H5⟩⟩
    isplitr; · iexact H5
    isplitl [H1]; · iexact H1
    isplitl [H2]; · iexact H2
    isplitl [H3]; · iexact H3
    isplitl [H4]; · iexact H4
    iexact H5
  · rw [show qk k = 1 from if_neg h, show rk k = n0 k by unfold rk n0; rw [if_neg h]; split <;> omega]
    iintro ⟨H1, ⟨H2, #H5⟩, H3, H4⟩
    isplitr; · iexact H5
    isplitl [H1]; · iexact H1
    isplitl [H2]
    · isplitl [H2]; · iexact H2
      iexact H5
    isplitl [H3]; · iexact H3
    iexact H4

/-! ## The handshake -/

theorem rest_bar {k : ℕ} (h1 : 1 ≤ k) (h : k < 24) :
    bigSep ((Rd (F := F) m).duties (barCell d) k \ ∅) (fun b => (Rd (F := F) m).payload (barCell d) k b) = barPay (F := F) d k := by
  rw [Finset.sdiff_empty, duties_bar m d h1 h, bigSep_singleton, pay_bar m d h1]

theorem rest_send {k : ℕ} (h : k < 24) :
    bigSep ((Rd (F := F) m).duties (sendCell d (pk k)) (rk k) \ ∅) (fun b => (Rd (F := F) m).payload (sendCell d (pk k)) (rk k) b)
      = slotAny (F := F) d (pk k) := by
  rw [Finset.sdiff_empty, duties_send m d h, bigSep_singleton, pay_send]

theorem rest_recv {k : ℕ} (h : k < 24) :
    bigSep ((Rd (F := F) m).duties (recvCell d (qk k)) (rk k) \ ∅) (fun b => (Rd (F := F) m).payload (recvCell d (qk k)) (rk k) b)
      = recvPay m d k := by
  rw [Finset.sdiff_empty, duties_recv m d h, bigSep_singleton, pay_recv]

theorem ext_pass {k : ℕ} (h1 : 1 ≤ k) : ext (F := F) d k ⊢ iprop(pass (F := F) (prv d) k ∗ (pass (F := F) d k -∗ ext (F := F) d (k + 1))) := by
  unfold ext pass
  by_cases h : k = 1
  · subst h
    rw [if_pos rfl, if_pos rfl, if_pos (Nat.le_refl 1), if_neg (by decide), show pl (prv d) 2 = nxt d by revert d; decide]
    iintro H
    isplitl [H]; · iexact H
    iintro H; iexact H
  · rw [if_neg h, if_neg h, if_neg (by omega), if_neg (by omega)]
    iintro H
    isplitr; · iempintro
    iintro -; iexact H

theorem run_handshake {Q : α → sProp 𝕄} {kont : PUnit → BProg F α} {k : ℕ} (h : k + 1 < 24) :
    iprop(ctx m K ∗ Sent (F := F) d k ∗ slotAny (F := F) d (qk (k + 1)))
      ⊢ iprop((Ready (F := F) d (k + 1) -∗ Run d (kont ⟨⟩) Q) -∗ Run d (handshake d >>= kont) Q) := by
  simp only [handshake, semSignalWord, semWaitWord, Prog.lift, Prog.bind_op, Prog.bind_ret, leftD_eq d]
  unfold Sent place
  rw [stB_cons d h]
  iintro ⟨#Hc, ⟨HO, ⟨⟨Ht, Hcr⟩, HB⟩, ⟨Hat, -⟩, HX, HP, #HrP, He⟩, Hs⟩ Hk
  unfold owe
  icases HO with ⟨%W, HO⟩
  ihave HP2 := (stP_recv d (k + 1)) $$ HP
  icases HP2 with ⟨#Hrr, HP⟩
  ihave He2 := (ext_pass d (k := k + 1) (by omega)) $$ He
  icases He2 with ⟨Hpass, He⟩
  ihave #HIp := (ctx_inv m K (bar_mem (prv d))) $$ Hc
  ihave #HI := (ctx_inv m K (bar_mem d)) $$ Hc
  iapply (Rounds.wp_signal 𝒱₀ ER (Rd (F := F) m) (T d) none (dst := T (prv d)) (κ := K (barCell (prv d))) (r := k + 1)
      (d := false) (by rw [duties_bar m (prv d) (by omega) h]; exact Finset.mem_singleton_self _)
      ((amount_bar m (prv d) (k + 1) false).trans (by decide)) (k + 1) (O d (k + 1) (k + 2)) (O_bar d (k + 1) h))
    $$ [HO Ht Hs Hpass]
  · isplitr; · iexact HIp
    isplitl [HO]; · iexact HO
    isplitl [Ht]; · iexact Ht
    isplitl [Hs Hpass]
    · rw [pay_bar m (prv d) (by omega)]; unfold barPay; rw [nxt_prv]
      isplitl [Hs]; · iexact Hs
      isplitr; · iexact Hrr
      iexact Hpass
    iexact HrP
  iintro HO
  iapply (Rounds.wp_wait_rest_token 𝒱₀ ER (Rd (F := F) m) (T d) none (κ := K (barCell d))
      (wpE_semWait_eq 𝒱₀ (T d) none Set.univ) (Set.mem_univ _) (k + 1) (O := O d (k + 1) (k + 2)) (W := W) (R := k + 1) (m := 0) (T := ∅)
      (by rw [expect_bar m d (by omega) h]; decide)) $$ [Hcr HO Hat]
  · isplitr; · iexact HI
    isplitl [Hcr]; · iexact Hcr
    isplitl [HO]; · iexact HO
    isplitr
    · iapply (mayWait d (.reg barS) (k + 1) (k + 1) (k + 2) h (by rw [lv_bar]; omega))
      iapply (ctx_lev m K) $$ Hc
    iexact Hat
  iintro ⟨HO, Hat, #Hrb, Hpay⟩
  ihave Hp := (Entails.of_eq (rest_bar m d (k := k + 1) (by omega) h)) $$ Hpay
  unfold barPay
  icases Hp with ⟨Hs, #Hrn, Hpass⟩
  iapply Hk
  unfold Ready place owe
  isplitl [HO]; · iexists _; iexact HO
  isplitl [HB]; · iexact HB
  isplitl [Hat]
  · isplitl [Hat]; · iexact Hat
    iexact Hrb
  isplitl [HX]; · iexact HX
  isplitl [HP]; · iexact HP
  isplitl [Hs]; · iexact Hs
  isplitr; · iexact Hrn
  iapply He; iexact Hpass

/-! ## The transfer -/

theorem slot_credit (p : Fin 2) : (slotM p).view.dmaCredit = NS := by fin_cases p <;> rfl

/-- The send alone, to a device that is the right neighbour. -/
theorem run_send (n : Dev nD) (hn : n = nxt d) {k : ℕ} (h : k < 24)
    {hsc : (slotM (qk k) : Memref sig (Dev.tc n : Thread nD τ).2.kind .vmem S1024x1024 .f32).view.ref.isScScratch = false}
    {hsrc : (slotM (pk k)).view.WordExact} {hdst : (slotM (qk k)).view.WordExact}
    {hsem : DmaTarget.Typed .vmem (.dma (recvS (qk k))) (.remote (Dev.tc n : Thread nD τ) (slotM (qk k)) (.dma (sendS (pk k))) hsc)}
    {Q : α → sProp 𝕄} {kont : PUnit → BProg F α}
    (f fn : (cc0_scratch2 : Ref sig .tc).ty.Contents (Elt F)) (hf : (slotA (pk k)).read (Elt F) f = accAt m k d) (W : Waits sig ℕ) :
    iprop(cellInv ER (Rd (F := F) m) (K (sendCell d (pk k))) (sendCell d (pk k))
        ∗ cellInv ER (Rd (F := F) m) (K (recvCell (nxt d) (qk k))) (recvCell (nxt d) (qk k))
        ∗ slotPts d (pk k) f ∗ (slotPts (nxt d) (qk k) fn ∗ reached ER (barCell d) (k + 1))
        ∗ owes (T d) (O d k (k + 1)) W
        ∗ dutyTok ER (sendCell d (pk k)) (rk k) false ∗ reached ER (sendCell d (pk k)) (rk k)
        ∗ dutyTok ER (recvCell (nxt d) (qk k)) (rk k) false ∗ reached ER (recvCell (nxt d) (qk k)) (rk k))
      ⊢ iprop(((cred (tallyAt (sendCell d (pk k)) k NS) ∗ owes (T d) (O d (k + 1) (k + 1)) W) -∗ Run d (kont ⟨⟩) Q)
          -∗ Run d (.op (.enqueueDma (slotM (pk k)) (.remote (Dev.tc n : Thread nD τ) (slotM (qk k)) (.dma (sendS (pk k))) hsc)
            (.dma (recvS (qk k))) hsrc hdst hsem) kont) Q) := by
  subst hn
  have hN : (slotM (qk k)).view.amount (.dma (recvS (qk k))) = NS := slot_credit _
  have hpay1 : slotPts (F := F) d (pk k) f ⊢ (Rd (F := F) m).payload (sendCell d (pk k)) (rk k) false := by
    rw [pay_send]; unfold slotAny; iintro H; iexists f; iexact H
  have hpay2 : iprop(slotPts (nxt d) (qk k) ((slotM (qk k)).view.write (Elt F) fn ((slotM (pk k)).view.read (Elt F) f) Finset.univ)
      ∗ reached ER (barCell d) (k + 1)) ⊢ (Rd (F := F) m).payload (recvCell (nxt d) (qk k)) (rk k) false := by
    rw [pay_recv]; unfold recvPay slotHas; rw [prv_nxt]
    iintro ⟨H, Hr⟩
    isplitl [H]
    · iexists _
      isplitl [H]; · iexact H
      ipureintro
      rw [read_write_slotM, read_slotM, hf]
      exact toSlot_ofSlot _
    iexact Hr
  exact Rounds.wp_send_pointsTo_with 𝒱₀ ER (Rd (F := F) m) (T d) none (κ₁ := K (sendCell d (pk k))) (κ₂ := K (recvCell (nxt d) (qk k)))
    (r₁ := rk k) (r₂ := rk k) (d₁ := false) (d₂ := false) (fd := fn)
    (by rw [duties_send m d h]; exact Finset.mem_singleton_self _) (by rw [duties_recv m (nxt d) h]; exact Finset.mem_singleton_self _)
    k k NS hN (amount_send m d _ _ false) (amount_recv m (nxt d) _ _ false) (O d (k + 1) (k + 1)) (O_recv d (k + 1) h) (W := W)
    hpay1 hpay2

theorem run_xfer {Q : α → sProp 𝕄} {kont : PUnit → BProg F α} {k : ℕ} (h : k < 24) (p q : Fin 2) (hp : pk k = p) (hq : qk k = q) :
    iprop(ctx m K ∗ Ready (F := F) d k ∗ slotHas d p (accAt m k d))
      ⊢ iprop(((Sent (F := F) d k ∗ slotAny (F := F) d p ∗ slotHas d q (accAt m k (prv d))) -∗ Run d (kont ⟨⟩) Q) -∗ Run d (xfer d p q >>= kont) Q) := by
  subst hp hq
  simp only [xfer, sendR, waitR, Prog.lift, Prog.bind_op, Prog.bind_ret]
  unfold Ready place
  rw [stX_cons d h]
  iintro ⟨#Hc, ⟨HO, HB, ⟨Hat, #Hrb⟩, ⟨⟨Hts, Htr, Hcr⟩, HX⟩, HP, Hsn, #Hrn, He⟩, Hs⟩ Hk
  unfold owe
  icases HO with ⟨%W, HO⟩
  ihave HP2 := (stP_split d k) $$ HP
  unfold place
  icases HP2 with ⟨⟨HatS, #HrS⟩, ⟨HatR, -⟩, HP⟩
  unfold slotHas slotAny
  icases Hs with ⟨%f, Hs, %hf⟩
  icases Hsn with ⟨%fn, Hsn⟩
  ihave #HIs := (ctx_inv m K (send_mem d (pk k))) $$ Hc
  ihave #HIr := (ctx_inv m K (recv_mem d (qk k))) $$ Hc
  ihave #HIn := (ctx_inv m K (recv_mem (nxt d) (qk k))) $$ Hc
  iapply (run_send m K d _ (rightD_eq d) h f fn hf W) $$ [Hs Hsn HO Hts Htr]
  · isplitr; · iexact HIs
    isplitr; · iexact HIn
    isplitl [Hs]; · iexact Hs
    isplitl [Hsn]
    · isplitl [Hsn]; · iexact Hsn
      iexact Hrb
    isplitl [HO]; · iexact HO
    isplitl [Hts]; · iexact Hts
    isplitr; · iexact HrS
    isplitl [Htr]; · iexact Htr
    iexact Hrn
  iintro ⟨HcS, HO⟩
  iapply (Rounds.wp_wait_rest_token 𝒱₀ ER (Rd (F := F) m) (T d) none (κ := K (sendCell d (pk k)))
      (wpE_waitDma2_eq 𝒱₀ (T d) none Set.univ) (Set.mem_univ _) k (O := O d (k + 1) (k + 1)) (W := W) (R := rk k) (m := 0) (T := ∅)
      (by rw [Nat.zero_add, expect_send m d h])) $$ [HcS HO HatS]
  · isplitr; · iexact HIs
    isplitl [HcS]; · iexact HcS
    isplitl [HO]; · iexact HO
    isplitr
    · iapply (mayWait d (.dma (sendS (pk k))) k (k + 1) (k + 1) h (by rw [lv_send]; omega))
      iapply (ctx_lev m K) $$ Hc
    iexact HatS
  iintro ⟨HO, HatS, #HrS', Hpay⟩
  ihave Hs := (Entails.of_eq (rest_send m d h)) $$ Hpay
  iapply (Rounds.wp_wait_rest_token 𝒱₀ ER (Rd (F := F) m) (T d) none (κ := K (recvCell d (qk k)))
      (wpE_waitDma2_eq 𝒱₀ (T d) none Set.univ) (Set.mem_univ _) k (O := O d (k + 1) (k + 1)) (R := rk k) (m := 0) (T := ∅)
      (by rw [Nat.zero_add, expect_recv m d h])) $$ [Hcr HO HatR]
  · isplitr; · iexact HIr
    isplitl [Hcr]; · iexact Hcr
    isplitl [HO]; · iexact HO
    isplitr
    · iapply (mayWait d (.dma (recvS (qk k))) k (k + 1) (k + 1) h (by rw [lv_recv]; omega))
      iapply (ctx_lev m K) $$ Hc
    iexact HatR
  iintro ⟨HO, HatR, #HrR', Hpay⟩
  ihave Hp := (Entails.of_eq (rest_recv m d h)) $$ Hpay
  unfold recvPay
  icases Hp with ⟨Hl, #Hrp⟩
  iapply Hk
  unfold Sent place owe
  isplitl [HO HB Hat HX HP HatS HatR He]
  · isplitl [HO]; · iexists _; iexact HO
    isplitl [HB]; · iexact HB
    isplitl [Hat]
    · isplitl [Hat]; · iexact Hat
      iexact Hrb
    isplitl [HX]; · iexact HX
    isplitl [HP HatS HatR]
    · iapply HP
      isplitl [HatS]
      · isplitl [HatS]; · iexact HatS
        iexact HrS'
      isplitl [HatR]; · iexact HatR
      iexact HrR'
    isplitr; · iexact Hrp
    iexact He
  isplitl [Hs]
  · unfold slotAny; iexact Hs
  unfold slotHas; iexact Hl

end Cert.KernelIdeal.Own

end
-- ==== Proof.Places.lean ====
/- Where the slots, the planes and the column chunks lie: what belongs to which, and the buffers cut along them and put
   together again. -/
module

public import proofs.«01_k».proof.Proof.Local

@[expose] public section

set_option maxRecDepth 65536

noncomputable section

namespace Cert.KernelIdeal.Own

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ) (d : Dev nD)

/-! ## Planes -/

theorem plane_set (r : Fin 4) : (planeM r).view.set = (planeR r).set :=
  (View.set_reshape _ _).trans (View.set_slice_whole _ _)

theorem mem_plane (r : Fin 4) (i : S4x8x128.Idx) : i ∈ (planeM r).view.set ↔ (i 0).val = r.val := by
  rw [plane_set]
  refine Rect.mem_set_unit.trans ⟨fun h => ?_, fun h a => ?_⟩
  · have := h 0
    simp only [Matrix.cons_val_zero] at this
    have h2 : S1x8x128.size 0 = 1 := rfl
    omega
  · fin_cases a
    · show r.val ≤ (i 0).val ∧ (i 0).val < r.val + 1
      omega
    · exact ⟨Nat.zero_le _, by show (i 1).val < 0 + 8; have := (i 1).isLt; exact (Nat.zero_add 8).symm ▸ this⟩
    · exact ⟨Nat.zero_le _, by show (i 2).val < 0 + 128; have := (i 2).isLt; exact (Nat.zero_add 128).symm ▸ this⟩

theorem plane_disj {r r' : Fin 4} (h : r ≠ r') : Disjoint (planeM r).view.set (planeM r').view.set :=
  Finset.disjoint_left.mpr fun i hi hi' => h (Fin.ext (((mem_plane r i).mp hi).symm.trans ((mem_plane r' i).mp hi')))

/-- The elements of plane `r`. -/
abbrev planeSet (r : Fin 4) : Finset S4x8x128.Idx := (planeM r).view.set

theorem plane_all : (Finset.univ : Finset (Fin 4)).biUnion planeSet = Finset.univ := by
  ext i
  simp only [Finset.mem_biUnion, Finset.mem_univ, true_and, iff_true]
  exact ⟨i 0, (mem_plane (i 0) i).mpr rfl⟩

theorem bigSep_four (P : Fin 4 → sProp 𝕄) : bigSep Finset.univ P = iprop(P 0 ∗ P 1 ∗ P 2 ∗ P 3) :=
  bigSep_univ_eq_bigSepL [0, 1, 2, 3] (by decide) (by decide) P

/-- The four planes are the buffer. -/
theorem planes_eq (f : (cc0_scratch3 : Ref sig .tc).ty.Contents (Elt F)) :
    ((T d).loc cc0_scratch3 ↦{fullShare} f : sProp 𝕄)
      = iprop(planeAt d 0 fullShare f ∗ planeAt d 1 fullShare f ∗ planeAt d 2 fullShare f ∗ planeAt d 3 fullShare f) := by
  have h := pointsTo_biUnion (Ix := ℕ) (Val := Elt F) (Name := ℕ) (U := UU) (Lvl := ℕ) (ℓ := (T d).loc cc0_scratch3) (q := fullShare) (f := f)
    (Finset.univ : Finset (Fin 4)) (fun r => (planeM r).view.set) (fun a _ b _ h => plane_disj h)
  exact (congrArg (fun S => ((T d).loc cc0_scratch3 ↦[S]{fullShare} f : sProp 𝕄)) plane_all.symm).trans (h.trans (bigSep_four _))

/-- The buffer of the maxima, cut into its planes. -/
theorem planes_cut (f : (cc0_scratch3 : Ref sig .tc).ty.Contents (Elt F)) :
    ((T d).loc cc0_scratch3 ↦{fullShare} f : sProp 𝕄)
      ⊢ iprop(planeAny d 0 ∗ planeAny d 1 ∗ planeAny d 2 ∗ planeAny d 3) := by
  rw [planes_eq]
  unfold planeAny
  iintro ⟨H0, H1, H2, H3⟩
  isplitl [H0]; · iexists f; iexact H0
  isplitl [H1]; · iexists f; iexact H1
  isplitl [H2]; · iexists f; iexact H2
  iexists f; iexact H3

/-- A broadcast number over plane 0 is the device's own maximum there. -/
theorem plane_store (f : (cc0_scratch3 : Ref sig .tc).ty.Contents (Elt F)) :
    planeAt (F := F) d 0 fullShare (((Memref.whole cc0_scratch3).access (planeR 0)).write (Elt F) f (spread (amx m d)) Finset.univ)
      = planePts m d 0 fullShare := by
  unfold planePts planeAt
  refine pointsTo_congr fun i hi => ?_
  have hi0 := (mem_plane 0 i).mp hi
  rw [show (planeM 0).view.set = ((Memref.whole cc0_scratch3).access (planeR 0)).set from View.set_reshape _ _] at hi
  obtain ⟨x, -, rfl⟩ := Finset.mem_map.mp hi
  rw [View.write_emb_of_mem _ _ (Finset.mem_univ x)]
  show amx m d = allMax m d (((Memref.whole cc0_scratch3).access (planeR 0)).emb x)
  unfold allMax
  rw [show (((Memref.whole cc0_scratch3).access (planeR 0)).emb x) 0 = (0 : Fin 4) from Fin.ext hi0, pl_zero]

/-- What is copied out of plane 0 lands as the sender's maximum. -/
theorem plane_land (n : Dev nD) (q : Fin 4) (hn : pl n q = d) (f : (cc0_scratch3 : Ref sig .tc).ty.Contents (Elt F)) :
    planeAt (F := F) n q fullShare ((planeM q).view.write (Elt F) f ((planeM 0).view.read (Elt F) (allMax m d)) Finset.univ)
      = planePts m n q fullShare := by
  unfold planePts planeAt
  refine pointsTo_congr fun i hi => ?_
  have hi0 := (mem_plane q i).mp hi
  obtain ⟨x, -, rfl⟩ := Finset.mem_map.mp hi
  rw [View.write_emb_of_mem _ _ (Finset.mem_univ x)]
  have h0 : ((planeM 0).view.emb x) 0 = (0 : Fin 4) := Fin.ext ((mem_plane 0 _).mp (Finset.mem_map_of_mem _ (Finset.mem_univ x)))
  have hq : ((planeM q).view.emb x) 0 = q := Fin.ext hi0
  show allMax m d ((planeM 0).view.emb x) = allMax m n ((planeM q).view.emb x)
  unfold allMax
  rw [h0, hq, hn, pl_zero]

/-! ## Slots -/

theorem slotV_set (p : Fin 2) : (slotM p).view.set = (slotR p).set :=
  (View.set_reshape _ _).trans (View.set_slice_whole _ _)

theorem mem_slot (p : Fin 2) (i : S2x1024x1024.Idx) : i ∈ (slotM p).view.set ↔ (i 0).val = p.val := by
  rw [slotV_set]
  refine Rect.mem_set_unit.trans ⟨fun h => ?_, fun h a => ?_⟩
  · have := h 0
    simp only [Matrix.cons_val_zero] at this
    have h2 : S1x1024x1024.size 0 = 1 := rfl
    omega
  · fin_cases a
    · show p.val ≤ (i 0).val ∧ (i 0).val < p.val + 1
      omega
    · exact ⟨Nat.zero_le _, by show (i 1).val < 0 + 1024; have := (i 1).isLt; exact (Nat.zero_add 1024).symm ▸ this⟩
    · exact ⟨Nat.zero_le _, by show (i 2).val < 0 + 1024; have := (i 2).isLt; exact (Nat.zero_add 1024).symm ▸ this⟩

theorem slot_disj : Disjoint (slotM 0).view.set (slotM 1).view.set :=
  Finset.disjoint_left.mpr fun i hi hi' => absurd (((mem_slot 0 i).mp hi).symm.trans ((mem_slot 1 i).mp hi')) (by decide)

theorem slot_all : (slotM 0).view.set ∪ (slotM 1).view.set = (Finset.univ : Finset S2x1024x1024.Idx) := by
  ext i
  simp only [Finset.mem_union, Finset.mem_univ, iff_true]
  have : (i 0).val < 2 := (i 0).isLt
  rcases (show (i 0).val = 0 ∨ (i 0).val = 1 by omega) with h | h
  · exact Or.inl ((mem_slot 0 i).mpr h)
  · exact Or.inr ((mem_slot 1 i).mpr h)

/-- The communication buffer, cut into its slots. -/
theorem slots_cut (f : (cc0_scratch2 : Ref sig .tc).ty.Contents (Elt F)) :
    ((T d).loc cc0_scratch2 ↦{fullShare} f : sProp 𝕄) ⊢ iprop(slotAny d 0 ∗ slotAny d 1) := by
  have h := (pointsTo_union (Ix := ℕ) (Val := Elt F) (Name := ℕ) (U := UU) (Lvl := ℕ) (ℓ := (T d).loc cc0_scratch2) (q := fullShare) (f := f) slot_disj).1
  rw [show (slotM 0).view.set ∪ (slotM 1).view.set = Finset.univ from slot_all] at h
  refine h.trans ?_
  unfold slotAny slotPts
  iintro ⟨H0, H1⟩
  isplitl [H0]; · iexists f; iexact H0
  iexists f; iexact H1

/-- The two slots are the communication buffer again. -/
theorem slots_join : iprop(slotAny (F := F) d 0 ∗ slotAny (F := F) d 1) ⊢ (iprop(∃ f, (T d).loc cc0_scratch2 ↦{fullShare} f) : sProp 𝕄) := by
  unfold slotAny slotPts
  iintro ⟨⟨%f, H0⟩, ⟨%g, H1⟩⟩
  have h := pointsTo_join (Ix := ℕ) (Val := Elt F) (Name := ℕ) (U := UU) (Lvl := ℕ) (ℓ := (T d).loc cc0_scratch2) (q := fullShare) (f := f) (g := g) slot_disj
  rw [show (slotM 0).view.set ∪ (slotM 1).view.set = Finset.univ from slot_all] at h
  iexists _
  iapply h
  isplitl [H0]; · iexact H0
  iexact H1

/-! ## Column chunks of the result -/

theorem mem_col (j : Fin 8) (i : S1024x8192.Idx) : i ∈ (outM j).view.set ↔ (i 1).val / 1024 = j.val := by
  rw [show (outM j).view.set = (colR j).set from View.set_slice_whole _ _]
  refine Rect.mem_set_unit.trans ⟨fun h => ?_, fun h a => ?_⟩
  · have : 1024 * j.val ≤ (i 1).val ∧ (i 1).val < 1024 * j.val + 1024 := h 1
    omega
  · fin_cases a
    · exact ⟨Nat.zero_le _, by show (i 0).val < 0 + 1024; have := (i 0).isLt; exact (Nat.zero_add 1024).symm ▸ this⟩
    · show 1024 * j.val ≤ (i 1).val ∧ (i 1).val < 1024 * j.val + 1024
      omega

/-- Writing one chunk changes that chunk alone. -/
theorem out_write (g : (main_v1 : Ref sig .tc).ty.Contents (Elt F)) (j : Fin 8) (w : FVec F S1024x1024 .f32)
    (G : Fin 8 → FVec F S1024x1024 .f32) (hG : ∀ i, (outM i).view.read (Elt F) g = G i) (i : Fin 8) :
    (outM i).view.read (Elt F) ((outM j).view.write (Elt F) g w Finset.univ) = Function.update G j w i := by
  by_cases h : i = j
  · subst h; rw [Function.update_self]; exact View.read_write_univ _ _
  · rw [Function.update_of_ne h, ← hG i]
    refine View.read_congr (fun x hx => View.write_of_not_mem _ _ _ fun hx' => h (Fin.ext ?_))
    rw [View.setOn_univ] at hx'
    exact ((mem_col i x).mp hx).symm.trans ((mem_col j x).mp hx')

/-- The result's buffer, its chunks holding `G`. -/
def outIs (G : Fin 8 → FVec F S1024x1024 .f32) : sProp 𝕄 :=
  iprop(∃ g, outPts d g ∗ ⌜∀ i, (outM i).view.read (Elt F) g = G i⌝)

end Cert.KernelIdeal.Own

end
-- ==== Proof.Ring.lean ====
/- The opening barrier and the ring: eight column chunks of three steps each. -/
module

public import proofs.«01_k».proof.Proof.Steps
public import proofs.«01_k».proof.Proof.Places

@[expose] public section

set_option maxRecDepth 65536

noncomputable section

namespace Cert.KernelIdeal.Own

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)
variable {α : Type} (K : GSem nD τ sig → ℕ) (d : Dev nD)

/-! ## The opening barrier -/

theorem rest_bar0 :
    bigSep ((Rd (F := F) m).duties (barCell d) 0 \ ∅) (fun b => (Rd (F := F) m).payload (barCell d) 0 b)
      = iprop(openR (F := F) d ∗ openL (F := F) d) := by
  rw [Finset.sdiff_empty, duties_bar0]
  exact bigSep_univ_eq_bigSepL [false, true] (by decide) (by decide) _

theorem run_opening {Q : α → sProp 𝕄} {kont : PUnit → BProg F α} :
    iprop(ctx m K ∗ owe (F := F) d (O₀ d) ∗ dutyTok ER (barCell (prv d)) 0 false ∗ dutyTok ER (barCell (nxt d)) 0 true
        ∗ cred (tallyAt (barCell d) 0 2) ∗ place (F := F) (barCell d) 0 ∗ slotAny (F := F) d 1
        ∗ planeAny (F := F) d 1 ∗ planeAny (F := F) d 2 ∗ planeAny (F := F) d 3
        ∗ stB (F := F) d 1 ∗ stX (F := F) d 0 ∗ stP (F := F) d 0)
      ⊢ iprop(((Ready (F := F) d 0 ∗ planeAny (F := F) (nxt d) 3 ∗ planeAny (F := F) (prv d) 1) -∗ Run d (kont ⟨⟩) Q)
          -∗ Run d (opening d >>= kont) Q) := by
  simp only [opening, semSignalWord, semWaitWord, Prog.lift, Prog.bind_op, Prog.bind_ret, leftD_eq d, rightD_eq d]
  unfold place owe
  iintro ⟨#Hc, ⟨%W, HO⟩, HtP, HtN, Hcr, ⟨Hat, -⟩, Hs, Hp1, Hp2, Hp3, HB, HX, HP⟩ Hk
  ihave #HIp := (ctx_inv m K (bar_mem (prv d))) $$ Hc
  ihave #HIn := (ctx_inv m K (bar_mem (nxt d))) $$ Hc
  ihave #HI := (ctx_inv m K (bar_mem d)) $$ Hc
  ihave #Hrp := (ctx_reached m K (bar_mem (prv d))) $$ Hc
  ihave #Hrn := (ctx_reached m K (bar_mem (nxt d))) $$ Hc
  ihave #Hrr := (ctx_reached m K (recv_mem (nxt d) 1)) $$ Hc
  iapply (Rounds.wp_signal 𝒱₀ ER (Rd (F := F) m) (T d) none (dst := T (prv d)) (κ := K (barCell (prv d))) (r := 0)
      (d := false) (by rw [duties_bar0]; exact Finset.mem_univ _)
      ((amount_bar m (prv d) 0 false).trans (by decide)) 0 (O d 0 1 + tallyAt (barCell (nxt d)) 0 1) rfl)
    $$ [HO HtP Hs Hp2 Hp3]
  · isplitr; · iexact HIp
    isplitl [HO]; · iexact HO
    isplitl [HtP]; · iexact HtP
    isplitl [Hs Hp2 Hp3]
    · rw [pay_bar0_false]; unfold openR; rw [nxt_prv]
      isplitl [Hs]; · iexact Hs
      isplitl [Hp3]; · iexact Hp3
      iexact Hp2
    iexact Hrp
  iintro HO
  iapply (Rounds.wp_signal 𝒱₀ ER (Rd (F := F) m) (T d) none (dst := T (nxt d)) (κ := K (barCell (nxt d))) (r := 0)
      (d := true) (by rw [duties_bar0]; exact Finset.mem_univ _)
      ((amount_bar m (nxt d) 0 true).trans (by decide)) 0 (O d 0 1) rfl)
    $$ [HO HtN Hp1]
  · isplitr; · iexact HIn
    isplitl [HO]; · iexact HO
    isplitl [HtN]; · iexact HtN
    isplitl [Hp1]
    · rw [pay_bar0_true]; unfold openL; rw [prv_nxt]
      iexact Hp1
    iexact Hrn
  iintro HO
  iapply (Rounds.wp_wait_rest_token 𝒱₀ ER (Rd (F := F) m) (T d) none (κ := K (barCell d))
      (wpE_semWait_eq 𝒱₀ (T d) none Set.univ) (Set.mem_univ _) 0 (O := O d 0 1) (W := W) (R := 0) (m := 0) (T := ∅)
      (by rw [expect_bar0 m d]; decide)) $$ [Hcr HO Hat]
  · isplitr; · iexact HI
    isplitl [Hcr]; · iexact Hcr
    isplitl [HO]; · iexact HO
    isplitr
    · iapply (mayWait d (.reg barS) 0 0 1 (by decide) (by rw [lv_bar]; decide))
      iapply (ctx_lev m K) $$ Hc
    iexact Hat
  iintro ⟨HO, Hat, #Hrb, Hpay⟩
  ihave Hp := (Entails.of_eq (rest_bar0 m d)) $$ Hpay
  unfold openR openL
  icases Hp with ⟨⟨Hs, Hp3, Hp2⟩, Hp1⟩
  iapply Hk
  isplitr [Hp3 Hp1]
  · unfold Ready place owe ext
    isplitl [HO]; · iexists _; iexact HO
    isplitl [HB]; · iexact HB
    isplitl [Hat]
    · isplitl [Hat]; · iexact Hat
      iexact Hrb
    isplitl [HX]; · iexact HX
    isplitl [HP]; · iexact HP
    isplitl [Hs]; · iexact Hs
    isplitr; · iexact Hrr
    iexact Hp2
  isplitl [Hp3]; · iexact Hp3
  iexact Hp1

/-! ## Chunks -/

theorem accAt_zero (j : Fin 8) (d : Dev nD) : accAt m (3 * j.val) d = acc0 m d j := by fin_cases j <;> rfl
theorem accAt_one (j : Fin 8) (d : Dev nD) : accAt m (3 * j.val + 1) d = acc1 m d j := by fin_cases j <;> rfl
theorem accAt_two (j : Fin 8) (d : Dev nD) : accAt m (3 * j.val + 2) d = acc2 m d j := by fin_cases j <;> rfl

theorem pk_zero (j : ℕ) : pk (3 * j) = 0 := if_neg (by omega)
theorem pk_one (j : ℕ) : pk (3 * j + 1) = 1 := if_pos (by omega)
theorem pk_two (j : ℕ) : pk (3 * j + 2) = 0 := if_neg (by omega)
theorem qk_zero (j : ℕ) : qk (3 * j) = 1 := if_neg (by omega)
theorem qk_one (j : ℕ) : qk (3 * j + 1) = 0 := if_pos (by omega)
theorem qk_two (j : ℕ) : qk (3 * j + 2) = 1 := if_neg (by omega)

theorem Sent_owe (k : ℕ) : Sent (F := F) d k
    ⊢ iprop(owe (F := F) d (O d (k + 1) (k + 1)) ∗ (owe (F := F) d (O d (k + 1) (k + 1)) -∗ Sent (F := F) d k)) := by
  unfold Sent
  iintro ⟨HO, H⟩
  isplitl [HO]; · iexact HO
  iintro HO
  isplitl [HO]; · iexact HO
  iexact H

theorem run_outIs {Q : α → sProp 𝕄} {k : PUnit → BProg F α} {A : CellTallies nD τ sig ℕ} (hA : CopyOk (F := F) d A) (j : Fin 8) (p : Fin 2) (v : FVec F S1x1024x1024 .f32)
    (G : Fin 8 → FVec F S1024x1024 .f32) :
    iprop(ctx m K ∗ owe (F := F) d A ∗ slotHas (F := F) d p v ∗ outIs d G ∗ copyZ (F := F) d)
      ⊢ iprop(((owe (F := F) d A ∗ slotHas (F := F) d p v ∗ outIs d (Function.update G j (ofSlot v)) ∗ copyZ (F := F) d)
          -∗ Run d (k ⟨⟩) Q) -∗ Run d (outC j p >>= k) Q) := by
  unfold outIs
  iintro ⟨#Hc, HO, Hs, ⟨%g, Ho, %hg⟩, Hz⟩ Hk
  iapply (run_outC m K d A hA j p v g) $$ [HO Hs Ho Hz]
  · isplitr; · iexact Hc
    isplitl [HO]; · iexact HO
    isplitl [Hs]; · iexact Hs
    isplitl [Ho]; · iexact Ho
    iexact Hz
  iintro ⟨HO, Hs, Ho, Hz⟩
  iapply Hk
  isplitl [HO]; · iexact HO
  isplitl [Hs]; · iexact Hs
  isplitl [Ho]
  · iexists _
    isplitl [Ho]; · iexact Ho
    ipureintro; exact out_write g j (ofSlot v) G hg
  iexact Hz

/-- A chunk from its first transfer on. -/
theorem run_chunkTail {Q : α → sProp 𝕄} {kont : F .f32 → BProg F α} (j : Fin 8) (am : F .f32) (G : Fin 8 → FVec F S1024x1024 .f32) :
    iprop(ctx m K ∗ Ready (F := F) d (3 * j.val) ∗ xPts m d ∗ wPts m d j ∗ slotHas (F := F) d 0 (acc0 m d j) ∗ outIs d G ∗ copyZ (F := F) d)
      ⊢ iprop(((Sent (F := F) d (3 * j.val + 2) ∗ xPts m d ∗ wPts m d j ∗ slotAny (F := F) d 0 ∗ slotAny (F := F) d 1
            ∗ outIs d (Function.update G j (fin m d j)) ∗ copyZ (F := F) d) -∗ Run d (kont (amaxOf am (fin m d j))) Q)
          -∗ Run d (chunkTail d j am >>= kont) Q) := by
  have hj : j.val < 8 := j.isLt
  simp only [chunkTail, bind_assoc, pure_bind]
  iintro ⟨#Hc, HR, Hx, Hw, Hs, Ho, Hz⟩ Hk
  -- step 0: slot 0 to slot 1
  iapply (run_xfer m K d (k := 3 * j.val) (by omega) 0 1 (pk_zero _) (qk_zero _)) $$ [HR Hs]
  · isplitr; · iexact Hc
    isplitl [HR]; · iexact HR
    rw [accAt_zero]; iexact Hs
  rw [accAt_zero]
  iintro ⟨HR, H0, H1⟩
  iapply (run_accum m d j 0 1 _) $$ [Hx Hw H1]
  · isplitl [Hx]; · iexact Hx
    isplitl [Hw]; · iexact Hw
    iexact H1
  iintro ⟨Hx, Hw, H1⟩
  iapply (run_handshake m K d (k := 3 * j.val) (by omega)) $$ [HR H0]
  · isplitr; · iexact Hc
    isplitl [HR]; · iexact HR
    rw [qk_one]; iexact H0
  iintro HR
  -- step 1: slot 1 to slot 0
  iapply (run_xfer m K d (k := 3 * j.val + 1) (by omega) 1 0 (pk_one _) (qk_one _)) $$ [HR H1]
  · isplitr; · iexact Hc
    isplitl [HR]; · iexact HR
    rw [accAt_one]; iexact H1
  rw [accAt_one]
  iintro ⟨HR, H1, H0⟩
  iapply (run_accum m d j 1 0 _) $$ [Hx Hw H0]
  · isplitl [Hx]; · iexact Hx
    isplitl [Hw]; · iexact Hw
    iexact H0
  iintro ⟨Hx, Hw, H0⟩
  iapply (run_handshake m K d (k := 3 * j.val + 1) (by omega)) $$ [HR H1]
  · isplitr; · iexact Hc
    isplitl [HR]; · iexact HR
    rw [qk_two]; iexact H1
  iintro HR
  -- step 2: slot 0 to slot 1, the last sum, and out
  iapply (run_xfer m K d (k := 3 * j.val + 2) (by omega) 0 1 (pk_two _) (qk_two _)) $$ [HR H0]
  · isplitr; · iexact Hc
    isplitl [HR]; · iexact HR
    rw [accAt_two]; iexact H0
  rw [accAt_two]
  iintro ⟨HR, H0, H1⟩
  iapply (run_finish m d j am) $$ [Hx Hw H1]
  · isplitl [Hx]; · iexact Hx
    isplitl [Hw]; · iexact Hw
    iexact H1
  iintro ⟨Hx, Hw, H1⟩
  ihave HR2 := (Sent_owe d _) $$ HR
  icases HR2 with ⟨HO, HR⟩
  iapply (run_outIs m K d (copyOk_O d (3 * j.val + 2 + 1) (b := 3 * j.val + 2 + 1) (by omega)) j 1 _ G) $$ [HO H1 Ho Hz]
  · isplitr; · iexact Hc
    isplitl [HO]; · iexact HO
    isplitl [H1]; · iexact H1
    isplitl [Ho]; · iexact Ho
    iexact Hz
  rw [ofSlot_toSlot]
  iintro ⟨HO, H1, Ho, Hz⟩
  iapply Hk
  isplitl [HO HR]; · iapply HR; iexact HO
  isplitl [Hx]; · iexact Hx
  isplitl [Hw]; · iexact Hw
  isplitl [H0]; · iexact H0
  isplitl [H1]; · iapply (slotHas_any d 1 _) $$ H1
  isplitl [Ho]; · iexact Ho
  iexact Hz

/-- What is held between chunks, `k` the last step done. -/
def Between (k : ℕ) (G : Fin 8 → FVec F S1024x1024 .f32) : sProp 𝕄 :=
  iprop(Sent (F := F) d k ∗ a1Pts m d ∗ xPts m d ∗ wAny (F := F) d ∗ slotAny (F := F) d 0 ∗ slotAny (F := F) d 1
    ∗ outIs d G ∗ copyZ (F := F) d)

/-- The first chunk, without a handshake of its own. -/
theorem run_chunk0 {Q : α → sProp 𝕄} {kont : F .f32 → BProg F α} (am : F .f32) (G : Fin 8 → FVec F S1024x1024 .f32) :
    iprop(ctx m K ∗ Ready (F := F) d 0 ∗ a1Pts m d ∗ xPts m d ∗ wAny (F := F) d ∗ slotAny (F := F) d 0 ∗ outIs d G ∗ copyZ (F := F) d)
      ⊢ iprop((Between m d 2 (Function.update G 0 (fin m d 0)) -∗ Run d (kont (amaxOf am (fin m d 0))) Q)
          -∗ Run d (loadW 0 >>= fun _ => firstP d >>= fun _ => chunkTail d 0 am >>= kont) Q) := by
  unfold Between
  iintro ⟨#Hc, HR, Ha, Hx, Hw, Hs, Ho, Hz⟩ Hk
  unfold Ready
  icases HR with ⟨HO, HR⟩
  iapply (run_loadW m K d _ (copyOk_O d 0 (Nat.le_refl 1)) 0) $$ [HO Ha Hw Hz]
  · isplitr; · iexact Hc
    isplitl [HO]; · iexact HO
    isplitl [Ha]; · iexact Ha
    isplitl [Hw]; · iexact Hw
    iexact Hz
  iintro ⟨HO, Ha, Hw, Hz⟩
  iapply (run_firstP m d 0) $$ [Hx Hw Hs]
  · isplitl [Hx]; · iexact Hx
    isplitl [Hw]; · iexact Hw
    iexact Hs
  iintro ⟨Hx, Hw, Hs⟩
  iapply (run_chunkTail m K d 0 am G) $$ [HO HR Hx Hw Hs Ho Hz]
  · isplitr; · iexact Hc
    isplitl [HO HR]
    · unfold Ready
      isplitl [HO]; · iexact HO
      iexact HR
    isplitl [Hx]; · iexact Hx
    isplitl [Hw]; · iexact Hw
    isplitl [Hs]; · iexact Hs
    isplitl [Ho]; · iexact Ho
    iexact Hz
  iintro ⟨HR, Hx, Hw, H0, H1, Ho, Hz⟩
  iapply Hk
  isplitl [HR]; · iexact HR
  isplitl [Ha]; · iexact Ha
  isplitl [Hx]; · iexact Hx
  isplitl [Hw]; · iapply (wPts_any m d 0) $$ Hw
  isplitl [H0]; · iexact H0
  isplitl [H1]; · iexact H1
  isplitl [Ho]; · iexact Ho
  iexact Hz

/-- A later chunk. -/
theorem run_chunk {Q : α → sProp 𝕄} {kont : F .f32 → BProg F α} (j : Fin 8) {k : ℕ} (hk : k + 1 = 3 * j.val) (am : F .f32)
    (G : Fin 8 → FVec F S1024x1024 .f32) :
    iprop(ctx m K ∗ Between m d k G)
      ⊢ iprop((Between m d (3 * j.val + 2) (Function.update G j (fin m d j)) -∗ Run d (kont (amaxOf am (fin m d j))) Q)
          -∗ Run d (chunk d j am >>= kont) Q) := by
  have hj : j.val < 8 := j.isLt
  simp only [chunk, bind_assoc]
  unfold Between
  iintro ⟨#Hc, HR, Ha, Hx, Hw, H0, H1, Ho, Hz⟩ Hk
  ihave HR2 := (Sent_owe d _) $$ HR
  icases HR2 with ⟨HO, HR⟩
  iapply (run_loadW m K d _ (copyOk_O d (k + 1) (b := k + 1) (by omega)) j) $$ [HO Ha Hw Hz]
  · isplitr; · iexact Hc
    isplitl [HO]; · iexact HO
    isplitl [Ha]; · iexact Ha
    isplitl [Hw]; · iexact Hw
    iexact Hz
  iintro ⟨HO, Ha, Hw, Hz⟩
  iapply (run_firstP m d j) $$ [Hx Hw H0]
  · isplitl [Hx]; · iexact Hx
    isplitl [Hw]; · iexact Hw
    iexact H0
  iintro ⟨Hx, Hw, Hs⟩
  iapply (run_handshake m K d (k := k) (by omega)) $$ [HO HR H1]
  · isplitr; · iexact Hc
    isplitl [HO HR]; · iapply HR; iexact HO
    rw [hk, qk_zero]; iexact H1
  rw [hk]
  iintro HR
  iapply (run_chunkTail m K d j am G) $$ [HR Hx Hw Hs Ho Hz]
  · isplitr; · iexact Hc
    isplitl [HR]; · iexact HR
    isplitl [Hx]; · iexact Hx
    isplitl [Hw]; · iexact Hw
    isplitl [Hs]; · iexact Hs
    isplitl [Ho]; · iexact Ho
    iexact Hz
  iintro ⟨HR, Hx, Hw, H0, H1, Ho, Hz⟩
  iapply Hk
  isplitl [HR]; · iexact HR
  isplitl [Ha]; · iexact Ha
  isplitl [Hx]; · iexact Hx
  isplitl [Hw]; · iapply (wPts_any m d j) $$ Hw
  isplitl [H0]; · iexact H0
  isplitl [H1]; · iexact H1
  isplitl [Ho]; · iexact Ho
  iexact Hz

/-- Eight updates are the whole family. -/
theorem update_all (G f : Fin 8 → FVec F S1024x1024 .f32) :
    Function.update (Function.update (Function.update (Function.update (Function.update (Function.update (Function.update (Function.update G
      0 (f 0)) 1 (f 1)) 2 (f 2)) 3 (f 3)) 4 (f 4)) 5 (f 5)) 6 (f 6)) 7 (f 7) = f := by
  funext i
  fin_cases i <;> simp [Function.update]

/-- The whole ring. -/
theorem run_ring {Q : α → sProp 𝕄} {kont : F .f32 → BProg F α} (G : Fin 8 → FVec F S1024x1024 .f32) :
    iprop(ctx m K ∗ Ready (F := F) d 0 ∗ a1Pts m d ∗ xPts m d ∗ wAny (F := F) d ∗ slotAny (F := F) d 0 ∗ outIs d G ∗ copyZ (F := F) d)
      ⊢ iprop((Between m d 23 (fin m d) -∗ Run d (kont (amx m d)) Q) -∗ Run d (ring d >>= kont) Q) := by
  simp only [ring, bind_assoc]
  iintro ⟨#Hc, H⟩ Hk
  iapply (run_chunk0 m K d _ G) $$ [H]
  · isplitr; · iexact Hc
    iexact H
  iintro H
  iapply (run_chunk m K d 1 (k := 2) rfl) $$ [H]
  · isplitr; · iexact Hc
    iexact H
  iintro H
  iapply (run_chunk m K d 2 (k := 5) rfl) $$ [H]
  · isplitr; · iexact Hc
    iexact H
  iintro H
  iapply (run_chunk m K d 3 (k := 8) rfl) $$ [H]
  · isplitr; · iexact Hc
    iexact H
  iintro H
  iapply (run_chunk m K d 4 (k := 11) rfl) $$ [H]
  · isplitr; · iexact Hc
    iexact H
  iintro H
  iapply (run_chunk m K d 5 (k := 14) rfl) $$ [H]
  · isplitr; · iexact Hc
    iexact H
  iintro H
  iapply (run_chunk m K d 6 (k := 17) rfl) $$ [H]
  · isplitr; · iexact Hc
    iexact H
  iintro H
  iapply (run_chunk m K d 7 (k := 20) rfl) $$ [H]
  · isplitr; · iexact Hc
    iexact H
  rw [update_all]
  iintro H
  iapply Hk
  iexact H

end Cert.KernelIdeal.Own

end
-- ==== Proof.Exchange.lean ====
/- The exchange of the maxima: plane 0 is filled and copied to the three other devices at once, each copy reading its own
   share of it; then the three landings and the three sends are waited for. -/
module

public import proofs.«01_k».proof.Proof.Ring

@[expose] public section

set_option maxRecDepth 65536

noncomputable section

namespace Cert.KernelIdeal.Own

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)
variable {α : Type} (K : GSem nD τ sig → ℕ) (d : Dev nD)

/-! ## One copy -/

theorem plane_credit (r : Fin 4) : (planeM r).view.dmaCredit = NA := by fin_cases r <;> rfl

/-- A copy of plane 0 to plane `q` of device `e`, for which this device is `q` places on. -/
theorem run_sendA (n e : Dev nD) (hn : n = e) (r q : Fin 4) (hr : r ≠ 0) (hq : q ≠ 0) (he : pl e q = d)
    {Q : α → sProp 𝕄} {kont : PUnit → BProg F α} (A : CellTallies nD τ sig ℕ) :
    iprop(ctx m K ∗ owe (F := F) d (A + tallyAt (arecvCell e q) 0 NA) ∗ planePts m d 0 (shr r) ∗ planeAny (F := F) e q
        ∗ dutyTok ER (asendCell d r) 0 false ∗ dutyTok ER (arecvCell e q) 0 false)
      ⊢ iprop(((owe (F := F) d A ∗ cred (tallyAt (asendCell d r) 0 NA)) -∗ Run d (kont ⟨⟩) Q) -∗ Run d (sendA n r q >>= kont) Q) := by
  subst hn
  simp only [sendA, Prog.lift, Prog.bind_op, Prog.bind_ret]
  have hN : (planeM q).view.amount (.dma (arecvS q)) = NA := plane_credit _
  unfold owe planeAny
  iintro ⟨#Hc, ⟨%W, HO⟩, Hs, ⟨%fn, Hd⟩, Ht, Ht'⟩ Hk
  have hpay1 : planePts m d 0 (shr r) ⊢ (Rd (F := F) m).payload (asendCell d r) 0 false := by
    rw [pay_asend m d hr]
  have hpay2 : planeAt (F := F) n q fullShare ((planeM q).view.write (Elt F) fn ((planeM 0).view.read (Elt F) (allMax m d)) Finset.univ)
      ⊢ (Rd (F := F) m).payload (arecvCell n q) 0 false := by
    rw [pay_arecv m n hq, plane_land m d n q he]
  ihave #HIs := (ctx_inv m K (asend_mem d r)) $$ Hc
  ihave #HIr := (ctx_inv m K (arecv_mem n q)) $$ Hc
  ihave #Hrs := (ctx_reached m K (asend_mem d r)) $$ Hc
  ihave #Hrr := (ctx_reached m K (arecv_mem n q)) $$ Hc
  iapply (Rounds.wp_send_pointsTo 𝒱₀ ER (Rd (F := F) m) (T d) none (c' := T n) (src := planeM 0) (dst := planeM q)
    (κ₁ := K (asendCell d r)) (κ₂ := K (arecvCell n q)) (q := shr r) (fs := allMax m d)
    (r₁ := 0) (r₂ := 0) (d₁ := false) (d₂ := false) (fd := fn)
    (by rw [duties_asend m d hr]; exact Finset.mem_singleton_self _) (by rw [duties_arecv m n hq]; exact Finset.mem_singleton_self _)
    0 0 NA hN (amount_asend m d _ _ false) (amount_arecv m n _ _ false) A rfl (W := W) hpay1 hpay2) $$ [HO Hs Hd Ht Ht']
  · isplitr; · iexact HIs
    isplitr; · iexact HIr
    isplitl [Hs]; · unfold planePts planeAt; iexact Hs
    isplitl [Hd]; · unfold planeAt; iexact Hd
    isplitl [HO]; · iexact HO
    isplitl [Ht]; · iexact Ht
    isplitr; · iexact Hrs
    isplitl [Ht']; · iexact Ht'
    iexact Hrr
  iintro ⟨Hcr, HO⟩
  iapply Hk
  isplitl [HO]; · iexists W; iexact HO
  iexact Hcr

theorem rest_asend {r : Fin 4} (h : r ≠ 0) :
    bigSep ((Rd (F := F) m).duties (asendCell d r) 0 \ ∅) (fun b => (Rd (F := F) m).payload (asendCell d r) 0 b) = planePts m d 0 (shr r) := by
  rw [Finset.sdiff_empty, duties_asend m d h, bigSep_singleton, pay_asend m d h]

theorem rest_arecv {r : Fin 4} (h : r ≠ 0) :
    bigSep ((Rd (F := F) m).duties (arecvCell d r) 0 \ ∅) (fun b => (Rd (F := F) m).payload (arecvCell d r) 0 b) = planePts m d r fullShare := by
  rw [Finset.sdiff_empty, duties_arecv m d h, bigSep_singleton, pay_arecv m d h]

/-- A wait for a landing. -/
theorem run_waitRecv (r q : Fin 4) (hr : r ≠ 0) {Q : α → sProp 𝕄} {kont : PUnit → BProg F α} :
    iprop(ctx m K ∗ owe (F := F) d 0 ∗ cred (tallyAt (arecvCell d r) 0 NA) ∗ place (F := F) (arecvCell d r) 0)
      ⊢ iprop(((owe (F := F) d 0 ∗ place (F := F) (arecvCell d r) 1 ∗ planePts m d r fullShare) -∗ Run d (kont ⟨⟩) Q)
          -∗ Run d (waitA (arecvS r) r q >>= kont) Q) := by
  simp only [waitA, Prog.lift, Prog.bind_op, Prog.bind_ret]
  unfold owe place
  iintro ⟨#Hc, ⟨%W, HO⟩, Hcr, ⟨Hat, -⟩⟩ Hk
  ihave #HI := (ctx_inv m K (arecv_mem d r)) $$ Hc
  iapply (Rounds.wp_wait_rest_token 𝒱₀ ER (Rd (F := F) m) (T d) none (κ := K (arecvCell d r))
      (wpE_waitDma2_eq 𝒱₀ (T d) none Set.univ) (Set.mem_univ _) 0 (O := 0) (W := W) (R := 0) (m := 0) (T := ∅)
      (by rw [Nat.zero_add, expect_arecv m d hr])) $$ [Hcr HO Hat]
  · isplitr; · iexact HI
    isplitl [Hcr]; · rw [plane_credit]; iexact Hcr
    isplitl [HO]; · iexact HO
    isplitr; · rw [MayWait_zero]; iempintro
    iexact Hat
  iintro ⟨HO, Hat, #Hr, Hpay⟩
  ihave Hp := (Entails.of_eq (rest_arecv m d hr)) $$ Hpay
  iapply Hk
  isplitl [HO]; · iexists _; iexact HO
  isplitl [Hat]
  · isplitl [Hat]; · iexact Hat
    iexact Hr
  iexact Hp

/-- A wait for a send. -/
theorem run_waitSend (r q : Fin 4) (hr : r ≠ 0) {Q : α → sProp 𝕄} {kont : PUnit → BProg F α} :
    iprop(ctx m K ∗ owe (F := F) d 0 ∗ cred (tallyAt (asendCell d r) 0 NA) ∗ place (F := F) (asendCell d r) 0)
      ⊢ iprop(((owe (F := F) d 0 ∗ place (F := F) (asendCell d r) 1 ∗ planePts m d 0 (shr r)) -∗ Run d (kont ⟨⟩) Q)
          -∗ Run d (waitA (asendS r) 0 q >>= kont) Q) := by
  simp only [waitA, Prog.lift, Prog.bind_op, Prog.bind_ret]
  unfold owe place
  iintro ⟨#Hc, ⟨%W, HO⟩, Hcr, ⟨Hat, -⟩⟩ Hk
  ihave #HI := (ctx_inv m K (asend_mem d r)) $$ Hc
  iapply (Rounds.wp_wait_rest_token 𝒱₀ ER (Rd (F := F) m) (T d) none (κ := K (asendCell d r))
      (wpE_waitDma2_eq 𝒱₀ (T d) none Set.univ) (Set.mem_univ _) 0 (O := 0) (W := W) (R := 0) (m := 0) (T := ∅)
      (by rw [Nat.zero_add, expect_asend m d hr])) $$ [Hcr HO Hat]
  · isplitr; · iexact HI
    isplitl [Hcr]; · rw [plane_credit]; iexact Hcr
    isplitl [HO]; · iexact HO
    isplitr; · rw [MayWait_zero]; iempintro
    iexact Hat
  iintro ⟨HO, Hat, #Hr, Hpay⟩
  ihave Hp := (Entails.of_eq (rest_asend m d hr)) $$ Hpay
  iapply Hk
  isplitl [HO]; · iexists _; iexact HO
  isplitl [Hat]
  · isplitl [Hat]; · iexact Hat
    iexact Hr
  iexact Hp

/-! ## The exchange -/

/-- Plane 0 in three shares. -/
theorem plane_shares : planePts m d 0 fullShare ⊣⊢ iprop(planePts m d 0 (shr 1) ∗ planePts m d 0 (shr 2) ∗ planePts m d 0 (shr 3)) := by
  unfold planePts planeAt
  refine ⟨?_, ?_⟩
  · iintro H
    ihave H2 := (pointsTo_share (PosShare.mem_left_op_right fullShare)).1 $$ H
    icases H2 with ⟨H1, H⟩
    ihave H2 := (pointsTo_share (PosShare.mem_left_op_right fullShare.right)).1 $$ H
    icases H2 with ⟨H2, H3⟩
    isplitl [H1]; · iexact H1
    isplitl [H2]; · iexact H2
    iexact H3
  · iintro ⟨H1, H2, H3⟩
    iapply (pointsTo_share (PosShare.mem_left_op_right fullShare)).2
    isplitl [H1]; · iexact H1
    iapply (pointsTo_share (PosShare.mem_left_op_right fullShare.right)).2
    isplitl [H2]; · iexact H2
    iexact H3

/-- The tokens and credits of the exchange. -/
def stA (d : Dev nD) : sProp 𝕄 :=
  iprop((dutyTok ER (asendCell d 1) 0 false ∗ dutyTok ER (asendCell d 2) 0 false ∗ dutyTok ER (asendCell d 3) 0 false)
    ∗ (dutyTok ER (arecvCell (nxt d) 3) 0 false ∗ dutyTok ER (arecvCell (pl d 2) 2) 0 false ∗ dutyTok ER (arecvCell (prv d) 1) 0 false)
    ∗ (cred (tallyAt (arecvCell d 1) 0 NA) ∗ cred (tallyAt (arecvCell d 2) 0 NA) ∗ cred (tallyAt (arecvCell d 3) 0 NA)))

/-- The places on the exchange's six cells. -/
def plA (d : Dev nD) (r : ℕ) : sProp 𝕄 :=
  iprop(place (F := F) (asendCell d 1) r ∗ place (F := F) (asendCell d 2) r ∗ place (F := F) (asendCell d 3) r
    ∗ place (F := F) (arecvCell d 1) r ∗ place (F := F) (arecvCell d 2) r ∗ place (F := F) (arecvCell d 3) r)

theorem pl_nxt (d : Dev nD) : pl (nxt d) 3 = d := by revert d; decide
theorem pl_prv (d : Dev nD) : pl (prv d) 1 = d := by revert d; decide

theorem zero3 : (![0, 0, 0] : Fin 3 → ℕ) = fun _ => 0 := funext fun a => by fin_cases a <;> rfl

theorem plane0_set : ((Memref.whole cc0_scratch3).access (planeR 0)).set = (planeM 0).view.set := (View.set_reshape _ _).symm

theorem run_exchange {Q : α → sProp 𝕄} {kont : Vec F S4x8x128 .f32 → BProg F α} :
    iprop(ctx m K ∗ owe (F := F) d (OA d) ∗ planeAny (F := F) d 0 ∗ planeAny (F := F) (nxt d) 3 ∗ planeAny (F := F) (pl d 2) 2
        ∗ planeAny (F := F) (prv d) 1 ∗ stA (F := F) d ∗ plA (F := F) d 0)
      ⊢ iprop(((owe (F := F) d 0 ∗ plA (F := F) d 1 ∗ ((T d).loc cc0_scratch3 ↦{fullShare} allMax m d)) -∗ Run d (kont (maxV m d)) Q)
          -∗ Run d (exchange d (amx m d) >>= kont) Q) := by
  simp only [exchange, bind_assoc]
  unfold stA plA
  iintro ⟨#Hc, HO, Hp0, Hn3, Hn2, Hn1, ⟨⟨Hs1, Hs2, Hs3⟩, ⟨Hr3, Hr2, Hr1⟩, ⟨Hc1, Hc2, Hc3⟩⟩, ⟨Ha1, Ha2, Ha3, Hb1, Hb2, Hb3⟩⟩ Hk
  -- plane 0 is filled
  simp only [Prog.lift, Prog.bind_op, Prog.bind_ret]
  unfold planeAny
  icases Hp0 with ⟨%f, Hp0⟩
  unfold planeAt
  iapply (wp_load_rect 𝒱₀ (T d) none Set.univ (m := Memref.whole cc0_scratch3) (r := planeR 0) plane0_set.le) $$ Hp0
  iintro Hp0
  iapply (wp_store 𝒱₀ (T d) none Set.univ (m := Memref.whole cc0_scratch3) (r := planeR 0) (Mk := Finset.univ)
    (by rw [View.setOn_univ]; exact plane0_set.le)) $$ Hp0
  iintro Hp0
  have hst := plane_store m d f
  unfold planeAt at hst
  ihave Hp0 := (Entails.of_eq hst) $$ Hp0
  ihave Hp0 := (plane_shares m d).1 $$ Hp0
  icases Hp0 with ⟨Hp1, Hp2, Hp3⟩
  -- the three copies
  unfold OA
  iapply (run_sendA m K d (fwd1 d) (nxt d) (fwd1_eq d) 1 3 (by decide) (by decide) (pl_nxt d)
    (tallyAt (arecvCell (prv d) 1) 0 NA + tallyAt (arecvCell (pl d 2) 2) 0 NA)) $$ [HO Hp1 Hn3 Hs1 Hr3]
  · isplitr; · iexact Hc
    isplitl [HO]; · iexact HO
    isplitl [Hp1]; · iexact Hp1
    isplitl [Hn3]; · unfold planeAny planeAt; iexact Hn3
    isplitl [Hs1]; · iexact Hs1
    iexact Hr3
  iintro ⟨HO, Hk1⟩
  iapply (run_sendA m K d (fwd2 d) (pl d 2) (fwd2_eq d) 2 2 (by decide) (by decide) (pl2_pl2 d)
    (tallyAt (arecvCell (prv d) 1) 0 NA)) $$ [HO Hp2 Hn2 Hs2 Hr2]
  · isplitr; · iexact Hc
    isplitl [HO]; · iexact HO
    isplitl [Hp2]; · iexact Hp2
    isplitl [Hn2]; · unfold planeAny planeAt; iexact Hn2
    isplitl [Hs2]; · iexact Hs2
    iexact Hr2
  iintro ⟨HO, Hk2⟩
  iapply (run_sendA m K d (fwd3 d) (prv d) (fwd3_eq d) 3 1 (by decide) (by decide) (pl_prv d) 0) $$ [HO Hp3 Hn1 Hs3 Hr1]
  · isplitr; · iexact Hc
    isplitl [HO]; · rw [zero_add]; iexact HO
    isplitl [Hp3]; · iexact Hp3
    isplitl [Hn1]; · unfold planeAny planeAt; iexact Hn1
    isplitl [Hs3]; · iexact Hs3
    iexact Hr1
  iintro ⟨HO, Hk3⟩
  -- the six waits
  iapply (run_waitRecv m K d 1 0 (by decide)) $$ [HO Hc1 Hb1]
  · isplitr; · iexact Hc
    isplitl [HO]; · iexact HO
    isplitl [Hc1]; · iexact Hc1
    iexact Hb1
  iintro ⟨HO, Hb1, Hl1⟩
  iapply (run_waitSend m K d 1 3 (by decide)) $$ [HO Hk1 Ha1]
  · isplitr; · iexact Hc
    isplitl [HO]; · iexact HO
    isplitl [Hk1]; · iexact Hk1
    iexact Ha1
  iintro ⟨HO, Ha1, Hp1⟩
  iapply (run_waitRecv m K d 2 0 (by decide)) $$ [HO Hc2 Hb2]
  · isplitr; · iexact Hc
    isplitl [HO]; · iexact HO
    isplitl [Hc2]; · iexact Hc2
    iexact Hb2
  iintro ⟨HO, Hb2, Hl2⟩
  iapply (run_waitSend m K d 2 2 (by decide)) $$ [HO Hk2 Ha2]
  · isplitr; · iexact Hc
    isplitl [HO]; · iexact HO
    isplitl [Hk2]; · iexact Hk2
    iexact Ha2
  iintro ⟨HO, Ha2, Hp2⟩
  iapply (run_waitRecv m K d 3 0 (by decide)) $$ [HO Hc3 Hb3]
  · isplitr; · iexact Hc
    isplitl [HO]; · iexact HO
    isplitl [Hc3]; · iexact Hc3
    iexact Hb3
  iintro ⟨HO, Hb3, Hl3⟩
  iapply (run_waitSend m K d 3 1 (by decide)) $$ [HO Hk3 Ha3]
  · isplitr; · iexact Hc
    isplitl [HO]; · iexact HO
    isplitl [Hk3]; · iexact Hk3
    iexact Ha3
  iintro ⟨HO, Ha3, Hp3⟩
  -- all four planes are read
  ihave Hp0 := (plane_shares m d).2 $$ [Hp1 Hp2 Hp3]
  · isplitl [Hp1]; · iexact Hp1
    isplitl [Hp2]; · iexact Hp2
    iexact Hp3
  unfold planePts
  ihave Hw := (Entails.of_eq (planes_eq (F := F) d (allMax m d)).symm) $$ [Hp0 Hl1 Hl2 Hl3]
  · isplitl [Hp0]; · iexact Hp0
    isplitl [Hl1]; · iexact Hl1
    isplitl [Hl2]; · iexact Hl2
    iexact Hl3
  iapply (wp_load 𝒱₀ (T d) none Set.univ (m := Memref.whole cc0_scratch3) (Finset.subset_univ _)) $$ Hw
  iintro Hw
  rw [show View.readAt (Elt F) (Memref.whole cc0_scratch3).view
      (Rect.unit (s := S4x8x128) ![0, 0, 0] S4x8x128.size inb_S4x8x128_S4x8x128_0_0_0).toLoadRect (allMax m d) = maxV m d from
        Memref.readAt_unit_zero (Elt F) cc0_scratch3 zero3 _ _]
  iapply Hk
  isplitl [HO]; · iexact HO
  isplitr [Hw]
  · isplitl [Ha1]; · iexact Ha1
    isplitl [Ha2]; · iexact Ha2
    isplitl [Ha3]; · iexact Ha3
    isplitl [Hb1]; · iexact Hb1
    isplitl [Hb2]; · iexact Hb2
    iexact Hb3
  iexact Hw

end Cert.KernelIdeal.Own

end
-- ==== Proof.Whole.lean ====
/- The whole body: opening, ring, exchange, quantising; and the semaphores closed at the end. -/
module

public import proofs.«01_k».proof.Proof.Exchange

@[expose] public section

set_option maxRecDepth 65536

noncomputable section

namespace Cert.KernelIdeal.Own

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)
variable {α : Type} (K : GSem nD τ sig → ℕ) (d : Dev nD)

/-! ## Quantising -/

/-- What the quantising of the chunks holds. -/
def Quant (G : Fin 8 → FVec F S1024x1024 .f32) : sProp 𝕄 :=
  iprop(owe (F := F) d 0 ∗ slotAny (F := F) d 0 ∗ outIs d G ∗ copyZ (F := F) d)

theorem run_quantIs {Q : α → sProp 𝕄} {k : PUnit → BProg F α} (j : Fin 8) (sc inv : F .f32)
    (G : Fin 8 → FVec F S1024x1024 .f32) (v : FVec F S1024x1024 .f32) (hv : G j = v) :
    iprop(ctx m K ∗ Quant (F := F) d G)
      ⊢ iprop((Quant (F := F) d (Function.update G j (quantM sc inv v)) -∗ Run d (k ⟨⟩) Q) -∗ Run d (quant sc inv j >>= k) Q) := by
  unfold Quant outIs
  iintro ⟨#Hc, HO, Hs, ⟨%g, Ho, %hg⟩, Hz⟩ Hk
  iapply (run_quant m K d 0 (copyOk_zero d) j sc inv g) $$ [HO Hs Ho Hz]
  · isplitr; · iexact Hc
    isplitl [HO]; · iexact HO
    isplitl [Hs]; · iexact Hs
    isplitl [Ho]; · iexact Ho
    iexact Hz
  iintro ⟨HO, Hs, Ho, Hz⟩
  iapply Hk
  isplitl [HO]; · iexact HO
  isplitl [Hs]; · iexact Hs
  isplitl [Ho]
  · iexists _
    isplitl [Ho]; · iexact Ho
    ipureintro
    rw [hg j, hv]
    exact out_write g j _ G hg
  iexact Hz

/-- The first `n` chunks quantised. -/
def part (sc inv : F .f32) (G : Fin 8 → FVec F S1024x1024 .f32) (n : ℕ) (i : Fin 8) : FVec F S1024x1024 .f32 :=
  if i.val < n then quantM sc inv (G i) else G i

theorem part_step (sc inv : F .f32) (G : Fin 8 → FVec F S1024x1024 .f32) (j : Fin 8) :
    Function.update (part sc inv G j.val) j (quantM sc inv (G j)) = part sc inv G (j.val + 1) := by
  funext i
  unfold part
  by_cases h : i = j
  · subst h; rw [Function.update_self, if_pos (Nat.lt_succ_self _)]
  · rw [Function.update_of_ne h]
    have : i.val ≠ j.val := fun e => h (Fin.ext e)
    by_cases h' : i.val < j.val
    · rw [if_pos h', if_pos (by omega)]
    · rw [if_neg h', if_neg (by omega)]

theorem run_part {Q : α → sProp 𝕄} {k : PUnit → BProg F α} (sc inv : F .f32) (G : Fin 8 → FVec F S1024x1024 .f32) (j : Fin 8) :
    iprop(ctx m K ∗ Quant (F := F) d (part sc inv G j.val))
      ⊢ iprop((Quant (F := F) d (part sc inv G (j.val + 1)) -∗ Run d (k ⟨⟩) Q) -∗ Run d (quant sc inv j >>= k) Q) := by
  rw [← part_step]
  exact run_quantIs m K d j sc inv _ (G j) (if_neg (Nat.lt_irrefl _))

theorem run_quants {Q : α → sProp 𝕄} {k : PUnit → BProg F α} (sc inv : F .f32) (G : Fin 8 → FVec F S1024x1024 .f32) :
    iprop(ctx m K ∗ Quant (F := F) d G)
      ⊢ iprop((Quant (F := F) d (fun j => quantM sc inv (G j)) -∗ Run d (k ⟨⟩) Q) -∗ Run d (quants sc inv >>= k) Q) := by
  rw [show G = part sc inv G (0 : Fin 8).val from funext fun i => (if_neg (Nat.not_lt_zero _)).symm,
    show (fun j => quantM sc inv (part sc inv G (0 : Fin 8).val j)) = part sc inv G ((7 : Fin 8).val + 1) from
      funext fun i => (if_pos i.isLt).symm]
  simp only [quants, bind_assoc]
  iintro ⟨#Hc, H⟩ Hk
  iapply (run_part m K d sc inv G 0) $$ [H]
  · isplitr; · iexact Hc
    iexact H
  iintro H
  iapply (run_part m K d sc inv G 1) $$ [H]
  · isplitr; · iexact Hc
    iexact H
  iintro H
  iapply (run_part m K d sc inv G 2) $$ [H]
  · isplitr; · iexact Hc
    iexact H
  iintro H
  iapply (run_part m K d sc inv G 3) $$ [H]
  · isplitr; · iexact Hc
    iexact H
  iintro H
  iapply (run_part m K d sc inv G 4) $$ [H]
  · isplitr; · iexact Hc
    iexact H
  iintro H
  iapply (run_part m K d sc inv G 5) $$ [H]
  · isplitr; · iexact Hc
    iexact H
  iintro H
  iapply (run_part m K d sc inv G 6) $$ [H]
  · isplitr; · iexact Hc
    iexact H
  iintro H
  iapply (run_part m K d sc inv G 7) $$ [H]
  · isplitr; · iexact Hc
    iexact H
  iintro H
  iapply Hk
  iexact H

/-! ## The semaphores closed -/

/-- No round of a semaphore numbered `n` has duties from `R` on. -/
theorem duties_end (g : GSem nD τ sig) (R : ℕ) (h : ∀ r, R ≤ r → dutiesN (code g.2) r = ∅) :
    ∀ r, R ≤ r → (Rd (F := F) m).duties g r = ∅ := h

theorem end_bar : ∀ r, 24 ≤ r → dutiesN (code (.reg barS : SemLoc sig)) r = ∅ := fun r h => by
  show dutiesN 100 r = ∅
  unfold dutiesN; rw [if_pos rfl, if_neg (by omega), if_neg (by omega)]
theorem end_send0 : ∀ r, 16 ≤ r → dutiesN (code (.dma (sendS 0))) r = ∅ := fun r h => by
  show dutiesN 1 r = ∅
  unfold dutiesN; rw [if_neg (by decide), if_pos (by decide), if_neg (by omega)]
theorem end_recv1 : ∀ r, 16 ≤ r → dutiesN (code (.dma (recvS 1))) r = ∅ := fun r h => by
  show dutiesN 4 r = ∅
  unfold dutiesN; rw [if_neg (by decide), if_pos (by decide), if_neg (by omega)]
theorem end_send1 : ∀ r, 8 ≤ r → dutiesN (code (.dma (sendS 1))) r = ∅ := fun r h => by
  show dutiesN 2 r = ∅
  unfold dutiesN; rw [if_neg (by decide), if_neg (by decide), if_pos (by decide), if_neg (by omega)]
theorem end_recv0 : ∀ r, 8 ≤ r → dutiesN (code (.dma (recvS 0))) r = ∅ := fun r h => by
  show dutiesN 3 r = ∅
  unfold dutiesN; rw [if_neg (by decide), if_neg (by decide), if_pos (by decide), if_neg (by omega)]
theorem end_small {n : ℕ} (hn : 5 ≤ n) (hn' : n < 100) : ∀ r, 1 ≤ r → dutiesN n r = ∅ := fun r h => by
  unfold dutiesN
  rw [if_neg (by omega), if_neg (by omega), if_neg (by omega), if_neg (by omega : r ≠ 0), ite_self]
theorem end_none {n : ℕ} (hn : n = 5 ∨ n = 9) : ∀ r, 0 ≤ r → dutiesN n r = ∅ := fun r _ => by
  unfold dutiesN
  rw [if_neg (by omega), if_neg (by omega), if_neg (by omega), if_pos (by omega)]

theorem run_close {g : GSem nD τ sig} (hg : g ∈ cells) (R : ℕ) (h : ∀ r, R ≤ r → dutiesN (code g.2) r = ∅) :
    iprop(ctx m K ∗ place (F := F) g R) ⊢ |={Set.univ}=> (semVal g 0 : sProp 𝕄) := by
  unfold place
  iintro ⟨#Hc, Hat, -⟩
  ihave #HI := (ctx_inv m K hg) $$ Hc
  imod (Rounds.cell_close ER (Rd (F := F) m) (Set.mem_univ (K g)) (fun h => h) (R := R) (duties_end m g R h)) $$ [Hat] with Hz
  · isplitr; · iexact HI
    iexact Hat
  imodintro
  iexact Hz

/-- All counters of the kernel's own semaphores at zero. -/
def zeros (d : Dev nD) : sProp 𝕄 :=
  iprop(semVal (T d, .dma copyS) 0
    ∗ (semVal (sendCell d 0) 0 ∗ semVal (sendCell d 1) 0) ∗ (semVal (recvCell d 0) 0 ∗ semVal (recvCell d 1) 0)
    ∗ (semVal (asendCell d 0) 0 ∗ semVal (asendCell d 1) 0 ∗ semVal (asendCell d 2) 0 ∗ semVal (asendCell d 3) 0)
    ∗ (semVal (arecvCell d 0) 0 ∗ semVal (arecvCell d 1) 0 ∗ semVal (arecvCell d 2) 0 ∗ semVal (arecvCell d 3) 0))

/-- The two cells nothing happens on. -/
def idle (d : Dev nD) : sProp 𝕄 := iprop(place (F := F) (asendCell d 0) 0 ∗ place (F := F) (arecvCell d 0) 0)

theorem close_all :
    iprop(ctx m K ∗ place (F := F) (barCell d) 24 ∗ stP (F := F) d 24 ∗ plA (F := F) d 1 ∗ idle (F := F) d ∗ copyZ (F := F) d)
      ⊢ |={Set.univ}=> iprop(zeros (F := F) d ∗ semVal (barCell d) 0) := by
  unfold stP plA idle zeros copyZ
  iintro ⟨#Hc, Hb, ⟨H1, H2, H3, H4⟩, ⟨A1, A2, A3, B1, B2, B3⟩, ⟨A0, B0⟩, Hz⟩
  imod (run_close m K (bar_mem d) 24 end_bar) $$ [Hb] with Hb
  · isplitr; · iexact Hc
    iexact Hb
  imod (run_close m K (send_mem d 0) 16 end_send0) $$ [H1] with H1
  · isplitr; · iexact Hc
    iexact H1
  imod (run_close m K (recv_mem d 1) 16 end_recv1) $$ [H2] with H2
  · isplitr; · iexact Hc
    iexact H2
  imod (run_close m K (send_mem d 1) 8 end_send1) $$ [H3] with H3
  · isplitr; · iexact Hc
    iexact H3
  imod (run_close m K (recv_mem d 0) 8 end_recv0) $$ [H4] with H4
  · isplitr; · iexact Hc
    iexact H4
  imod (run_close m K (asend_mem d 0) 0 (end_none (Or.inl rfl))) $$ [A0] with A0
  · isplitr; · iexact Hc
    iexact A0
  imod (run_close m K (asend_mem d 1) 1 (end_small (n := 6) (by decide) (by decide))) $$ [A1] with A1
  · isplitr; · iexact Hc
    iexact A1
  imod (run_close m K (asend_mem d 2) 1 (end_small (n := 7) (by decide) (by decide))) $$ [A2] with A2
  · isplitr; · iexact Hc
    iexact A2
  imod (run_close m K (asend_mem d 3) 1 (end_small (n := 8) (by decide) (by decide))) $$ [A3] with A3
  · isplitr; · iexact Hc
    iexact A3
  imod (run_close m K (arecv_mem d 0) 0 (end_none (Or.inr rfl))) $$ [B0] with B0
  · isplitr; · iexact Hc
    iexact B0
  imod (run_close m K (arecv_mem d 1) 1 (end_small (n := 10) (by decide) (by decide))) $$ [B1] with B1
  · isplitr; · iexact Hc
    iexact B1
  imod (run_close m K (arecv_mem d 2) 1 (end_small (n := 11) (by decide) (by decide))) $$ [B2] with B2
  · isplitr; · iexact Hc
    iexact B2
  imod (run_close m K (arecv_mem d 3) 1 (end_small (n := 12) (by decide) (by decide))) $$ [B3] with B3
  · isplitr; · iexact Hc
    iexact B3
  imodintro
  isplitr [Hb]
  · isplitl [Hz]; · iexact Hz
    isplitl [H1 H3]
    · isplitl [H1]; · iexact H1
      iexact H3
    isplitl [H2 H4]
    · isplitl [H4]; · iexact H4
      iexact H2
    isplitl [A0 A1 A2 A3]
    · isplitl [A0]; · iexact A0
      isplitl [A1]; · iexact A1
      isplitl [A2]; · iexact A2
      iexact A3
    isplitl [B0]; · iexact B0
    isplitl [B1]; · iexact B1
    isplitl [B2]; · iexact B2
    iexact B3
  iexact Hb

/-! ## The whole -/

/-- A device's ghost state at the start. -/
def ghost (d : Dev nD) : sProp 𝕄 :=
  iprop((dutyTok ER (barCell (prv d)) 0 false ∗ dutyTok ER (barCell (nxt d)) 0 true ∗ cred (tallyAt (barCell d) 0 2))
    ∗ place (F := F) (barCell d) 0 ∗ stB (F := F) d 1 ∗ stX (F := F) d 0 ∗ stP (F := F) d 0 ∗ stA (F := F) d ∗ plA (F := F) d 0
    ∗ idle (F := F) d ∗ copyZ (F := F) d)

/-- The kernel's scratch buffers, whatever they hold. -/
def scratch (d : Dev nD) : sProp 𝕄 :=
  iprop((∃ f, (T d).loc cc0_scratch0 ↦{fullShare} f) ∗ (∃ f, (T d).loc cc0_scratch1 ↦{fullShare} f)
    ∗ (∃ f, (T d).loc cc0_scratch2 ↦{fullShare} f) ∗ (∃ f, (T d).loc cc0_scratch3 ↦{fullShare} f))

/-- The arrays in HBM before. -/
def arrays₀ (d : Dev nD) : sProp 𝕄 := iprop(a0Pts m d ∗ a1Pts m d ∗ ∃ g, outPts d g)
/-- The arrays in HBM after. -/
def arrays₁ (d : Dev nD) : sProp 𝕄 := iprop(a0Pts m d ∗ a1Pts m d ∗ outIs d (outV m d))

theorem run_whole {Q : PUnit → sProp 𝕄} :
    iprop(ctx m K ∗ owe (F := F) d (O₀ d) ∗ ghost (F := F) d ∗ scratch (F := F) d ∗ arrays₀ m d)
      ⊢ iprop(((owe (F := F) d 0 ∗ zeros (F := F) d ∗ semVal (barCell d) 0 ∗ scratch (F := F) d ∗ arrays₁ m d) -∗ Q ⟨⟩)
        -∗ Run d whole Q) := by
  rw [show (whole : BProg F PUnit) = (Prog.lift .deviceId >>= fun d => opening d >>= fun _ => loadX >>= fun _ => ring d >>= fun am =>
    exchange d am >>= fun v => quants (scaleOf v) (invOf v) >>= fun _ => pure ⟨⟩) from rfl]
  simp only [Prog.lift, Prog.bind_op, Prog.bind_ret, wp_deviceId]
  unfold ghost scratch arrays₀
  iintro ⟨#Hc, HO, ⟨⟨Ht1, Ht2, Hcr⟩, Hpb, HB, HX, HP, HA, HpA, Hid, Hz⟩, ⟨⟨%f0, Hx⟩, ⟨%f1, Hw⟩, ⟨%f2, Hs⟩, ⟨%f3, Hp⟩⟩, Ha0, Ha1, ⟨%g, Ho⟩⟩ Hk
  ihave Hs := (slots_cut d f2) $$ Hs
  icases Hs with ⟨Hs0, Hs1⟩
  ihave Hp := (planes_cut d f3) $$ Hp
  icases Hp with ⟨Hp0, Hp1, Hp2, Hp3⟩
  iapply (run_opening m K d) $$ [HO Ht1 Ht2 Hcr Hpb Hs1 Hp1 Hp2 Hp3 HB HX HP]
  · isplitr; · iexact Hc
    isplitl [HO]; · iexact HO
    isplitl [Ht1]; · iexact Ht1
    isplitl [Ht2]; · iexact Ht2
    isplitl [Hcr]; · iexact Hcr
    isplitl [Hpb]; · iexact Hpb
    isplitl [Hs1]; · iexact Hs1
    isplitl [Hp1]; · iexact Hp1
    isplitl [Hp2]; · iexact Hp2
    isplitl [Hp3]; · iexact Hp3
    isplitl [HB]; · iexact HB
    isplitl [HX]; · iexact HX
    iexact HP
  iintro ⟨HR, Hn3, Hn1⟩
  unfold Ready
  icases HR with ⟨HO, HR⟩
  iapply (run_loadX m K d _ (copyOk_O d 0 (Nat.le_refl 1)) f0) $$ [HO Ha0 Hx Hz]
  · isplitr; · iexact Hc
    isplitl [HO]; · iexact HO
    isplitl [Ha0]; · iexact Ha0
    isplitl [Hx]; · iexact Hx
    iexact Hz
  iintro ⟨HO, Ha0, Hx, Hz⟩
  iapply (run_ring m K d (fun i => (outM i).view.read (Elt F) g)) $$ [HO HR Ha1 Hx Hw Hs0 Ho Hz]
  · isplitr; · iexact Hc
    isplitl [HO HR]
    · unfold Ready
      isplitl [HO]; · iexact HO
      iexact HR
    isplitl [Ha1]; · iexact Ha1
    isplitl [Hx]; · iexact Hx
    isplitl [Hw]; · unfold wAny; iexists f1; iexact Hw
    isplitl [Hs0]; · iexact Hs0
    isplitl [Ho]
    · unfold outIs
      iexists g
      isplitl [Ho]; · iexact Ho
      ipureintro; exact fun _ => rfl
    iexact Hz
  iintro H
  unfold Between Sent
  icases H with ⟨⟨HO, -, Hpb, -, HP, -, He⟩, Ha1, Hx, Hw, Hs0, Hs1, Ho, Hz⟩
  iapply (run_exchange m K d) $$ [HO Hp0 Hn3 He Hn1 HA HpA]
  · isplitr; · iexact Hc
    isplitl [HO]; · rw [← O_end d]; iexact HO
    isplitl [Hp0]; · iexact Hp0
    isplitl [Hn3]; · iexact Hn3
    isplitl [He]; · unfold ext; iexact He
    isplitl [Hn1]; · iexact Hn1
    isplitl [HA]; · iexact HA
    iexact HpA
  iintro ⟨HO, HpA, Hp⟩
  iapply (run_quants m K d _ _ (fin m d)) $$ [HO Hs0 Ho Hz]
  · isplitr; · iexact Hc
    unfold Quant
    isplitl [HO]; · iexact HO
    isplitl [Hs0]; · iexact Hs0
    isplitl [Ho]; · iexact Ho
    iexact Hz
  unfold Quant
  iintro ⟨HO, Hs0, Ho, Hz⟩
  unfold Run
  rw [Prog.pure_eq_ret, wp_ret]
  imod (close_all m K d) $$ [Hpb HP HpA Hid Hz] with H
  · isplitr; · iexact Hc
    isplitl [Hpb]; · iexact Hpb
    isplitl [HP]; · iexact HP
    isplitl [HpA]; · iexact HpA
    isplitl [Hid]; · iexact Hid
    iexact Hz
  icases H with ⟨Hzs, Hzb⟩
  imodintro
  iapply Hk
  isplitl [HO]; · iexact HO
  isplitl [Hzs]; · iexact Hzs
  isplitl [Hzb]; · iexact Hzb
  isplitl [Hx Hw Hs0 Hs1 Hp]
  · isplitl [Hx]; · unfold xPts; iexists _; iexact Hx
    isplitl [Hw]; · unfold wAny; iexact Hw
    isplitl [Hs0 Hs1]
    · iapply (slots_join d)
      isplitl [Hs0]; · iexact Hs0
      iexact Hs1
    iexists _; iexact Hp
  unfold arrays₁
  isplitl [Ha0]; · iexact Ha0
  isplitl [Ha1]; · iexact Ha1
  iexact Ho

end Cert.KernelIdeal.Own

end
-- ==== Proof.Deal.lean ====
/- The protocol's ghost state at launch: made, put under invariants, and dealt to the devices that use it. -/
module

public import proofs.«01_k».proof.Proof.Whole

@[expose] public section

set_option maxRecDepth 65536

noncomputable section

namespace Cert.KernelIdeal.Own

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

/-! ## The tokens -/

/-- The tokens of one device's own cells: the barrier's rounds, both ends of the transfers, and the rest. -/
def tk : Fin 4 × Fin 24 → SemLoc sig × ℕ × Bool
  | (0, i) => (.reg barS, i.val, false)
  | (1, i) => (.dma (sendS (pk i.val)), rk i.val, false)
  | (2, i) => (.dma (recvS (qk i.val)), rk i.val, false)
  | (_, ⟨1, _⟩) => (.dma (asendS 1), 0, false)
  | (_, ⟨2, _⟩) => (.dma (asendS 2), 0, false)
  | (_, ⟨3, _⟩) => (.dma (asendS 3), 0, false)
  | (_, ⟨4, _⟩) => (.dma (arecvS 1), 0, false)
  | (_, ⟨5, _⟩) => (.dma (arecvS 2), 0, false)
  | (_, ⟨6, _⟩) => (.dma (arecvS 3), 0, false)
  | (_, i) => (.reg barS, i.val, true)

theorem tk_injective : Function.Injective tk := by decide +kernel

/-- A device's token. -/
def tok (x : Dev nD × (Fin 4 × Fin 24)) : GSem nD τ sig × ℕ × Bool := ((T x.1, (tk x.2).1), (tk x.2).2)

theorem tok_injective : Function.Injective tok := fun a b h => by
  have h1 : a.1 = b.1 := congrArg (fun g => g.1.1.1) h
  have h2 : tk a.2 = tk b.2 := Prod.ext (congrArg (fun g => g.1.2) h) (congrArg (fun g => g.2) h)
  exact Prod.ext h1 (tk_injective h2)

/-- All tokens. -/
def toks : Finset (GSem nD τ sig × ℕ × Bool) := Finset.univ.map ⟨tok, tok_injective⟩

/-- The launch's ghost state. -/
def u₀ : UU := (initOf (Pipeline.cells cfgs cellOf_inj) (Pipeline.launchToks cfgs cellOf_inj), (initOf cells toks, 1))

/-! ## Kinds of tokens -/

def barF (d : Dev nD) : sProp 𝕄 := bigSep (Finset.Ico 0 24) fun i => dutyTok ER (barCell d) i false
def barT (d : Dev nD) : sProp 𝕄 := dutyTok ER (barCell d) 0 true
def sndT (d : Dev nD) : sProp 𝕄 := bigSep (Finset.Ico 0 24) fun i => dutyTok ER (sendCell d (pk i)) (rk i) false
def rcvT (d : Dev nD) : sProp 𝕄 := bigSep (Finset.Ico 0 24) fun i => dutyTok ER (recvCell d (qk i)) (rk i) false
def asT (r : Fin 4) (d : Dev nD) : sProp 𝕄 := dutyTok ER (asendCell d r) 0 false
def arT (r : Fin 4) (d : Dev nD) : sProp 𝕄 := dutyTok ER (arecvCell d r) 0 false

/-- The tokens of a device's own cells. -/
def ownToks (d : Dev nD) : sProp 𝕄 :=
  iprop(barF (F := F) d ∗ barT (F := F) d ∗ sndT (F := F) d ∗ rcvT (F := F) d ∗ asT (F := F) 1 d ∗ asT (F := F) 2 d ∗ asT (F := F) 3 d
    ∗ arT (F := F) 1 d ∗ arT (F := F) 2 d ∗ arT (F := F) 3 d)
/-- The tokens a device pays with. -/
def payToks (d : Dev nD) : sProp 𝕄 :=
  iprop(barF (F := F) (prv d) ∗ barT (F := F) (nxt d) ∗ sndT (F := F) d ∗ rcvT (F := F) (nxt d) ∗ asT (F := F) 1 d ∗ asT (F := F) 2 d ∗ asT (F := F) 3 d
    ∗ arT (F := F) 1 (prv d) ∗ arT (F := F) 2 (pl d 2) ∗ arT (F := F) 3 (nxt d))

theorem ico_univ : Finset.Ico 0 24 = (Finset.univ : Finset (Fin 24)).map Fin.valEmbedding := by decide

theorem bigSep_ico (Φ : ℕ → sProp 𝕄) : bigSep (Finset.univ : Finset (Fin 24)) (fun i => Φ i.val) = bigSep (Finset.Ico 0 24) Φ := by
  rw [ico_univ, bigSep_map]; rfl

theorem bigSep_fin4 (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_seven (Φ : Fin 24 → sProp 𝕄) :
    bigSep Finset.univ Φ ⊢ iprop(Φ 0 ∗ Φ 1 ∗ Φ 2 ∗ Φ 3 ∗ Φ 4 ∗ Φ 5 ∗ Φ 6) := by
  have h : bigSep ({0, 1, 2, 3, 4, 5, 6} : Finset (Fin 24)) Φ = iprop(Φ 0 ∗ Φ 1 ∗ Φ 2 ∗ Φ 3 ∗ Φ 4 ∗ Φ 5 ∗ Φ 6) :=
    bigSep_eq_bigSepL_of_eq [0, 1, 2, 3, 4, 5, 6] (by decide) (by decide) Φ
  rw [← h]
  exact bigSep_subset (Finset.subset_univ _)

theorem ownToks_intro (d : Dev nD) :
    (bigSep Finset.univ fun x : Fin 4 × Fin 24 => (dutyTok ER (tok (d, x)).1 (tok (d, x)).2.1 (tok (d, x)).2.2 : sProp 𝕄)) ⊢ ownToks (F := F) d := by
  rw [bigSep_univ_prod, bigSep_fin4]
  iintro ⟨H0, H1, H2, H3⟩
  ihave H0 := (show (bigSep Finset.univ fun b : Fin 24 => (dutyTok ER (tok (d, (0, b))).1 (tok (d, (0, b))).2.1 (tok (d, (0, b))).2.2 : sProp 𝕄)) ⊢ barF (F := F) d from Entails.of_eq (bigSep_ico fun i => dutyTok ER (barCell d) i false)) $$ H0
  ihave H1 := (show (bigSep Finset.univ fun b : Fin 24 => (dutyTok ER (tok (d, (1, b))).1 (tok (d, (1, b))).2.1 (tok (d, (1, b))).2.2 : sProp 𝕄)) ⊢ sndT (F := F) d from Entails.of_eq (bigSep_ico fun i => dutyTok ER (sendCell d (pk i)) (rk i) false)) $$ H1
  ihave H2 := (show (bigSep Finset.univ fun b : Fin 24 => (dutyTok ER (tok (d, (2, b))).1 (tok (d, (2, b))).2.1 (tok (d, (2, b))).2.2 : sProp 𝕄)) ⊢ rcvT (F := F) d from Entails.of_eq (bigSep_ico fun i => dutyTok ER (recvCell d (qk i)) (rk i) false)) $$ H2
  ihave H3 := (bigSep_seven _) $$ H3
  icases H3 with ⟨B0, A1, A2, A3, R1, R2, R3⟩
  unfold ownToks barT asT arT
  isplitl [H0]; · iexact H0
  isplitl [B0]; · iexact B0
  isplitl [H1]; · iexact H1
  isplitl [H2]; · iexact H2
  isplitl [A1]; · iexact A1
  isplitl [A2]; · iexact A2
  isplitl [A3]; · iexact A3
  isplitl [R1]; · iexact R1
  isplitl [R2]; · iexact R2
  iexact R3

/-! ## The ring as permutations of the devices -/

def ringE : Dev nD ≃ Dev nD := ⟨nxt, prv, prv_nxt, nxt_prv⟩
def acrossE : Dev nD ≃ Dev nD := ⟨fun d => pl d 2, fun d => pl d 2, pl2_pl2, pl2_pl2⟩

theorem deal_nxt (Φ : Dev nD → sProp 𝕄) : bigSep Finset.univ Φ = bigSep Finset.univ fun d => Φ (nxt d) := bigSep_univ_equiv ringE Φ
theorem deal_prv (Φ : Dev nD → sProp 𝕄) : bigSep Finset.univ Φ = bigSep Finset.univ fun d => Φ (prv d) := bigSep_univ_equiv ringE.symm Φ
theorem deal_across (Φ : Dev nD → sProp 𝕄) : bigSep Finset.univ Φ = bigSep Finset.univ fun d => Φ (pl d 2) := bigSep_univ_equiv acrossE Φ

theorem toks_around : (bigSep Finset.univ (ownToks (F := F))) ⊢ bigSep Finset.univ (payToks (F := F)) := by
  unfold ownToks payToks
  simp only [bigSep_sep']
  rw [← deal_prv barF, ← deal_nxt barT, ← deal_nxt rcvT, ← deal_prv (arT 1), ← deal_across (arT 2), ← deal_nxt (arT 3)]

/-! ## Funding -/

/-- A device's share of the launch's ghost state. -/
def G (d : Dev nD) : sProp 𝕄 :=
  iprop((bigSep Finset.univ fun i : Fin 13 => roundState ER (Rd (F := F) m) (kcell (d, i)) 0)
    ∗ (bigSep Finset.univ fun i : Fin 13 => atPos ER (kcell (d, i)) 0 ∅ 0)
    ∗ (bigSep Finset.univ fun i : Fin 13 => reached ER (kcell (d, i)) 0) ∗ ownToks (F := F) d)

theorem cells_eq (Φ : GSem nD τ sig → sProp 𝕄) :
    bigSep cells Φ = bigSep Finset.univ fun d : Dev nD => bigSep Finset.univ fun i : Fin 13 => Φ (kcell (d, i)) := by
  unfold cells; rw [bigSep_map, bigSep_univ_prod]; rfl

theorem toks_eq :
    bigSep toks (fun x => (dutyTok ER x.1 x.2.1 x.2.2 : sProp 𝕄)) ⊢ bigSep Finset.univ (ownToks (F := F)) := by
  unfold toks; rw [bigSep_map, bigSep_univ_prod]
  exact bigSep_mono fun d _ => ownToks_intro d

theorem fund_all : BI.own (ER (initOf cells toks)) ⊢ (|==> bigSep Finset.univ (G (F := F) m) : sProp 𝕄) := by
  iintro HX
  imod (Rounds.fund ER (Rd (F := F) m) cells toks) $$ HX with ⟨Hst, Hr, Hat, Htok⟩
  imodintro
  ihave Hst := (Entails.of_eq (cells_eq fun g => roundState ER (Rd (F := F) m) g 0)) $$ Hst
  ihave Hat := (Entails.of_eq (cells_eq fun g => atPos ER g 0 ∅ 0)) $$ Hat
  ihave Hr := (Entails.of_eq (cells_eq fun g => reached ER g 0)) $$ Hr
  ihave Htok := toks_eq $$ Htok
  unfold G; simp only [bigSep_sep']
  isplitl [Hst]; · iexact Hst
  isplitl [Hat]; · iexact Hat
  isplitl [Hr]; · iexact Hr
  iexact Htok

theorem fund_u : (ownU u₀ : sProp 𝕄)
    ⊢ |={Set.univ}=> iprop(BI.own (EP (initOf (Pipeline.cells cfgs cellOf_inj) (Pipeline.launchToks cfgs cellOf_inj))) ∗ bigSep Finset.univ (G (F := F) m)) := by
  unfold u₀
  iintro Hu
  ihave H := (ownU_pair _ _) $$ Hu
  icases H with ⟨HP, HX⟩
  ihave H := (own_pair_emb _ _ _) $$ HX
  icases H with ⟨HX, -⟩
  ihave HX := (show (BI.own (((Emb.inl : Emb UB (UB × Counters)).trans (embR : Emb (UB × Counters) 𝕄)) (initOf cells toks)) : sProp 𝕄)
    ⊢ BI.own (ER (initOf cells toks)) from Entails.rfl) $$ HX
  imod (fund_all m) $$ HX with HG
  imodintro
  isplitl [HP]
  · iexact HP
  iexact HG

/-! ## The semaphores -/

/-- The kernel's own semaphores. -/
abbrev osem (i : Fin 13) : SemLoc sig := .dma i

theorem ownSemFacts : Pipeline.OwnSemFacts cfg0.spec osem := by decide

/-- All thirteen, by role. -/
theorem ownSems_eq (d : Dev nD) :
    (Pipeline.ownSems0 (Ix := ℕ) (Name := ℕ) (U := UU) (Lvl := ℕ) (Val := Elt F) (τ := τ) osem d : sProp 𝕄)
      = iprop(semVal (T d, osem 0) 0 ∗ semVal (T d, osem 1) 0 ∗ semVal (T d, osem 2) 0 ∗ semVal (T d, osem 3) 0 ∗ semVal (T d, osem 4) 0 ∗ semVal (T d, osem 5) 0 ∗ semVal (T d, osem 6) 0 ∗ semVal (T d, osem 7) 0 ∗ semVal (T d, osem 8) 0 ∗ semVal (T d, osem 9) 0 ∗ semVal (T d, osem 10) 0 ∗ semVal (T d, osem 11) 0 ∗ semVal (T d, osem 12) 0) :=
  Pipeline.ownSems0_eq_of_list d osem [0, 1, 2, 3, 4, 5, 6, 7, 8, 9, 10, 11, 12] (by decide) (by decide)

theorem bigSep_fin13 (Φ : Fin 13 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ

theorem unscopedSems_eq (d : Dev nD) : (unscopedSems0 d : sProp 𝕄) = semVal (barCell d) 0 := by
  unfold unscopedSems0; rw [bigSep_eq_bigSepL_of_eq [SemLoc.reg barS] (by decide) (by decide)]; rfl

theorem sems_intro (d : Dev nD) :
    iprop(Pipeline.ownSems0 (Ix := ℕ) (Name := ℕ) (U := UU) (Lvl := ℕ) (Val := Elt F) (τ := τ) osem d ∗ unscopedSems0 d)
      ⊢ iprop(copyZ (F := F) d ∗ bigSep Finset.univ fun i : Fin 13 => (semVal (kcell (d, i)) 0 : sProp 𝕄)) := by
  rw [ownSems_eq, unscopedSems_eq, bigSep_fin13]
  unfold copyZ
  iintro ⟨⟨H0, H⟩, HB⟩
  isplitl [H0]; · iexact H0
  isplitl [HB]; · iexact HB
  iexact H

/-- A device's share once its cells have invariants. -/
def A₁ (d : Dev nD) : sProp 𝕄 :=
  iprop((bigSep Finset.univ fun i : Fin 13 => iprop(∃ κ : ℕ, cellInv ER (Rd (F := F) m) κ (kcell (d, i))))
    ∗ (bigSep Finset.univ fun i : Fin 13 => atPos ER (kcell (d, i)) 0 ∅ 0)
    ∗ (bigSep Finset.univ fun i : Fin 13 => reached ER (kcell (d, i)) 0) ∗ ownToks (F := F) d ∗ copyZ (F := F) d)

theorem core_alloc (d : Dev nD) :
    iprop(Pipeline.ownSems0 (Ix := ℕ) (Name := ℕ) (U := UU) (Lvl := ℕ) (Val := Elt F) (τ := τ) osem d ∗ unscopedSems0 d ∗ G (F := F) m d)
      ⊢ |={Set.univ}=> A₁ (F := F) m d := by
  unfold G A₁
  iintro ⟨Hos, Hus, Hst, Hat, Hr, Htok⟩
  ihave Hv := (sems_intro (F := F) d) $$ [Hos Hus]
  · isplitl [Hos]; · iexact Hos
    iexact Hus
  icases Hv with ⟨Hz, Hv⟩
  imod (show iprop((bigSep Finset.univ fun i : Fin 13 => semVal (kcell (d, i)) 0) ∗ bigSep Finset.univ fun i : Fin 13 => roundState ER (Rd (F := F) m) (kcell (d, i)) 0)
      ⊢ (|={Set.univ}=> bigSep Finset.univ fun i : Fin 13 => iprop(∃ κ : ℕ, cellInv ER (Rd (F := F) m) κ (kcell (d, i))) : sProp 𝕄) from by
        rw [← bigSep_sep']
        exact (bigSep_mono fun i _ => (Rounds.body_intro ER (Rd (F := F) m) (kcell (d, i))).trans inv_alloc).trans (bigSep_fupd _ _)) $$ [Hv Hst] with Hinv
  · isplitl [Hv]; · iexact Hv
    iexact Hst
  imodintro
  isplitl [Hinv]; · iexact Hinv
  isplitl [Hat]; · iexact Hat
  isplitl [Hr]; · iexact Hr
  isplitl [Htok]; · iexact Htok
  iexact Hz

/-- What all devices know. -/
def known (K : GSem nD τ sig → ℕ) : sProp 𝕄 :=
  iprop(bigSep cells (fun g => cellInv ER (Rd (F := F) m) (K g) g) ∗ bigSep cells (fun g => reached ER g 0))

instance known_persistent (K : GSem nD τ sig → ℕ) : BI.Persistent (known (F := F) m K) := by unfold known; infer_instance

/-- What each has for itself. -/
def mine (d : Dev nD) : sProp 𝕄 :=
  iprop((bigSep Finset.univ fun i : Fin 13 => atPos ER (kcell (d, i)) 0 ∅ 0) ∗ payToks (F := F) d ∗ copyZ (F := F) d)

def G' (d : Dev nD) : sProp 𝕄 := iprop(∃ K, known (F := F) m K ∗ mine (F := F) d)

theorem with_known {S : Finset (Dev nD)} {R : sProp 𝕄} [BI.Persistent R] {Φ Ψ : Dev nD → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup : bigSep Finset.univ (A₁ (F := F) m) ⊢ bigSep Finset.univ (G' (F := F) m) := by
  unfold A₁
  simp only [bigSep_sep']
  rw [← cells_eq (fun g => iprop(∃ κ : ℕ, cellInv ER (Rd (F := F) m) κ g)), ← cells_eq (fun g => reached ER g 0)]
  iintro ⟨HI, Hat, #HR, Htok, Hz⟩
  ihave HK := (BI.bigSep_exists_pi cells (fun (g : GSem nD τ sig) (κ : ℕ) => (cellInv ER (Rd (F := F) m) κ g : sProp 𝕄))) $$ HI
  icases HK with ⟨%K, #HI⟩
  ihave Htk := (toks_around (F := F)) $$ Htok
  iapply (with_known (R := known (F := F) m K) (Φ := mine (F := F)) fun d _ => show _ ⊢ G' (F := F) m d from by
    unfold G'
    iintro H
    iexists K
    iexact H)
  isplitr
  · unfold known
    isplitl; · iexact HI
    iexact HR
  unfold mine
  simp only [bigSep_sep']
  isplitl [Hat]; · iexact Hat
  isplitl [Htk]; · iexact Htk
  iexact Hz

theorem glob : (bigSep Finset.univ fun d =>
      iprop(Pipeline.ownSems0 (Ix := ℕ) (Name := ℕ) (U := UU) (Lvl := ℕ) (Val := Elt F) (τ := τ) osem d ∗ unscopedSems0 d ∗ G (F := F) m d) : sProp 𝕄)
    ⊢ |={Set.univ}=> bigSep Finset.univ (G' (F := F) m) :=
  ((bigSep_mono fun d _ => core_alloc m d).trans (bigSep_fupd _ _)).trans (BI.fupd_mono (regroup m))

end Cert.KernelIdeal.Own

end
-- ==== Proof.Run.lean ====
/- The launch: every execution ends, with the arguments unchanged, the result computed and all counters at zero. -/
module

public import proofs.«01_k».proof.Proof.Deal
public import Idealize.ShloMosaic.Lib.Pipeline.CollectiveSegs

@[expose] public section

set_option maxRecDepth 65536

noncomputable section

namespace Cert.KernelIdeal.Own

open Idealize.ShloMosaic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig ℕ (Elt F) ℕ UU ℕ

variable (m : (ℓ : Loc nD τ sig) → Buf (Elt F) ℓ)
variable (ρ : Dev nD → PrngReg)

/-! ## The credits -/

theorem creds_SR (c : Dev nD) :
    (Pipeline.launchCred (fun d => SR d 0) c : sProp 𝕄) ⊢ bigSep (Finset.Ico 0 24) fun i => cred (tallyAt (recvCell c (qk i)) i NS) := by
  unfold SR
  rw [Pipeline.launchCred_sum]
  exact bigSep_mono fun i _ => Pipeline.launchCred_tallyAt (.dma (recvS (qk i))) nxt prv nxt_prv prv_nxt i NS c

theorem creds_SB (c : Dev nD) :
    (Pipeline.launchCred (fun d => SB d 1) c : sProp 𝕄) ⊢ bigSep (Finset.Ico 1 24) fun i => cred (tallyAt (barCell c) i 1) := by
  unfold SB
  rw [Pipeline.launchCred_sum]
  exact bigSep_mono fun i _ => Pipeline.launchCred_tallyAt (.reg barS) prv nxt prv_nxt nxt_prv i 1 c

/-- The credits of the exchange. -/
def crA (c : Dev nD) : sProp 𝕄 :=
  iprop(cred (tallyAt (arecvCell c 1) 0 NA) ∗ cred (tallyAt (arecvCell c 2) 0 NA) ∗ cred (tallyAt (arecvCell c 3) 0 NA))

theorem creds_OA (c : Dev nD) : (Pipeline.launchCred (fun d => OA d) c : sProp 𝕄) ⊢ crA (F := F) c := by
  unfold OA crA
  rw [Pipeline.launchCred_add (fun d => tallyAt (arecvCell (prv d) 1) 0 NA + tallyAt (arecvCell (pl d 2) 2) 0 NA) (fun d => tallyAt (arecvCell (nxt d) 3) 0 NA),
    Pipeline.launchCred_add (fun d => tallyAt (arecvCell (prv d) 1) 0 NA) (fun d => tallyAt (arecvCell (pl d 2) 2) 0 NA)]
  iintro ⟨⟨H1, H2⟩, H3⟩
  isplitl [H1]; · iapply (Pipeline.launchCred_tallyAt (.dma (arecvS 1)) prv nxt prv_nxt nxt_prv 0 NA c); iexact H1
  isplitl [H2]; · iapply (Pipeline.launchCred_tallyAt (.dma (arecvS 2)) (fun d => pl d 2) (fun d => pl d 2) pl2_pl2 pl2_pl2 0 NA c); iexact H2
  iapply (Pipeline.launchCred_tallyAt (.dma (arecvS 3)) nxt prv nxt_prv prv_nxt 0 NA c); iexact H3

/-- A device's credits at launch. -/
def credits (c : Dev nD) : sProp 𝕄 :=
  iprop(cred (tallyAt (barCell c) 0 2) ∗ (bigSep (Finset.Ico 1 24) fun i => cred (tallyAt (barCell c) i 1))
    ∗ (bigSep (Finset.Ico 0 24) fun i => cred (tallyAt (recvCell c (qk i)) i NS)) ∗ crA (F := F) c)

theorem creds (c : Dev nD) : (Pipeline.launchCred O₀ c : sProp 𝕄) ⊢ credits (F := F) c := by
  rw [show (O₀ : Dev nD → CellTallies nD τ sig ℕ) = fun d => (((OA d + SR d 0) + SB d 1) + tallyAt (barCell (nxt d)) 0 1) + tallyAt (barCell (prv d)) 0 1 from rfl,
    Pipeline.launchCred_add (fun d => ((OA d + SR d 0) + SB d 1) + tallyAt (barCell (nxt d)) 0 1) (fun d => tallyAt (barCell (prv d)) 0 1),
    Pipeline.launchCred_add (fun d => (OA d + SR d 0) + SB d 1) (fun d => tallyAt (barCell (nxt d)) 0 1),
    Pipeline.launchCred_add (fun d => OA d + SR d 0) (fun d => SB d 1), Pipeline.launchCred_add (fun d => OA d) (fun d => SR d 0)]
  unfold credits
  iintro ⟨⟨⟨⟨HA, HR⟩, HB⟩, H1⟩, H2⟩
  ihave H1 := (Pipeline.launchCred_tallyAt (.reg barS) nxt prv nxt_prv prv_nxt 0 1 c) $$ H1
  ihave H2 := (Pipeline.launchCred_tallyAt (.reg barS) prv nxt prv_nxt nxt_prv 0 1 c) $$ H2
  isplitl [H1 H2]
  · rw [show (2 : ℕ) = 1 + 1 from rfl, ← tallyAt_add]
    iapply (cred_add _ _).2
    isplitl [H1]; · iexact H1
    iexact H2
  isplitl [HB]; · iapply (creds_SB c); iexact HB
  isplitl [HR]; · iapply (creds_SR c); iexact HR
  iapply (creds_OA c); iexact HA

/-! ## What a device starts from -/

/-- The ghost state, at some names. -/
def start (c : Dev nD) : sProp 𝕄 := iprop((∃ K, ctx (F := F) m K ∗ ghost (F := F) c) ∗ arrays₀ m c)

theorem place_intro (g : GSem nD τ sig) (hg : g ∈ cells) (K : GSem nD τ sig → ℕ) :
    iprop(ctx (F := F) m K ∗ atPos ER g 0 ∅ 0) ⊢ place (F := F) g 0 := by
  unfold place
  iintro ⟨#Hc, H⟩
  isplitl [H]; · iexact H
  iapply (ctx_reached m K hg)
  iexact Hc

theorem barF_split (d : Dev nD) :
    barF (F := F) d = iprop(dutyTok ER (barCell d) 0 false ∗ bigSep (Finset.Ico 1 24) fun i => dutyTok ER (barCell d) i false) := by
  unfold barF; rw [ico_cons (by decide : 0 < 24), bigSep_insert (ico_notMem 0)]; rfl

/-- A device's places, by role. -/
def places (d : Dev nD) : sProp 𝕄 := iprop(place (F := F) (barCell d) 0 ∗ stP (F := F) d 0 ∗ plA (F := F) d 0 ∗ idle (F := F) d)

theorem places_intro (K : GSem nD τ sig → ℕ) (d : Dev nD) :
    iprop(ctx (F := F) m K ∗ bigSep Finset.univ fun i : Fin 13 => atPos ER (kcell (d, i)) 0 ∅ 0) ⊢ places (F := F) d := by
  have h : iprop(ctx (F := F) m K ∗ bigSep Finset.univ fun i : Fin 13 => atPos ER (kcell (d, i)) 0 ∅ 0)
      ⊢ bigSep Finset.univ fun i : Fin 13 => place (F := F) (kcell (d, i)) 0 :=
    (sep_mono_left (BI.bigSep_of_persistent Finset.univ (ctx (F := F) m K))).trans
      (by rw [← bigSep_sep']; exact bigSep_mono fun i _ => place_intro m _ (kcell_mem (d, i)) K)
  refine h.trans ?_
  rw [bigSep_fin13]
  unfold places stP plA idle
  iintro ⟨B, S0, S1, R0, R1, A0, A1, A2, A3, V0, V1, V2, V3⟩
  isplitl [B]; · iexact B
  isplitl [S0 S1 R0 R1]
  · isplitl [S0]; · iexact S0
    isplitl [R1]; · iexact R1
    isplitl [S1]; · iexact S1
    iexact R0
  isplitl [A1 A2 A3 V1 V2 V3]
  · isplitl [A1]; · iexact A1
    isplitl [A2]; · iexact A2
    isplitl [A3]; · iexact A3
    isplitl [V1]; · iexact V1
    isplitl [V2]; · iexact V2
    iexact V3
  isplitl [A0]; · iexact A0
  iexact V0

theorem ghost_intro (c : Dev nD) :
    iprop(G' (F := F) m c ∗ levAts L lv ∗ credits (F := F) c) ⊢ (∃ K, ctx (F := F) m K ∗ ghost (F := F) c : sProp 𝕄) := by
  unfold G' mine credits payToks crA
  rw [barF_split]
  iintro ⟨⟨%K, #Hk, Hat, ⟨⟨Hf0, Hf⟩, Ht, Hs, Hr, As1, As2, As3, Ar1, Ar2, Ar3⟩, Hz⟩, #Hl, C2, CB, CR, CA⟩
  iexists K
  ihave #Hc := (show iprop(known (F := F) m K ∗ levAts L lv) ⊢ ctx (F := F) m K from by
    unfold known ctx
    iintro ⟨⟨H1, H2⟩, H3⟩
    isplitl [H1]; · iexact H1
    isplitl [H2]; · iexact H2
    iexact H3) $$ []
  · isplitr; · iexact Hk
    iexact Hl
  ihave Hpl := (places_intro m K c) $$ [Hat]
  · isplitr; · iexact Hc
    iexact Hat
  unfold places ghost
  icases Hpl with ⟨Pb, Pp, Pa, Pi⟩
  isplitr; · iexact Hc
  isplitl [Hf0 Ht C2]
  · isplitl [Hf0]; · iexact Hf0
    isplitl [Ht]; · unfold barT; iexact Ht
    iexact C2
  isplitl [Pb]; · iexact Pb
  isplitl [Hf CB]
  · unfold stB
    rw [bigSep_sep']
    isplitl [Hf]; · iexact Hf
    iexact CB
  isplitl [Hs Hr CR]
  · unfold stX sndT rcvT
    rw [bigSep_sep', bigSep_sep']
    isplitl [Hs]; · iexact Hs
    isplitl [Hr]; · iexact Hr
    iexact CR
  isplitl [Pp]; · iexact Pp
  isplitl [As1 As2 As3 Ar1 Ar2 Ar3 CA]
  · unfold stA asT arT
    isplitl [As1 As2 As3]
    · isplitl [As1]; · iexact As1
      isplitl [As2]; · iexact As2
      iexact As3
    isplitl [Ar1 Ar2 Ar3]
    · isplitl [Ar3]; · iexact Ar3
      isplitl [Ar2]; · iexact Ar2
      iexact Ar1
    iexact CA
  isplitl [Pa]; · iexact Pa
  isplitl [Pi]; · iexact Pi
  iexact Hz

theorem start_intro (c : Dev nD) :
    iprop(Pipeline.unscopedRestP Pipeline.Prefetch.none cfg0.spec c (fun b => m (c.tc.loc b)) ∗ levAts L lv
        ∗ Pipeline.launchCred O₀ c ∗ prngReg c (ρ c) ∗ G' (F := F) m c)
      ⊢ |={Set.univ}=> iprop(start m c ∗ emp) := by
  rw [Pipeline.unscopedRestP_none, unscopedRest0_eq]
  iintro ⟨⟨H0, H1, H2⟩, Hlev, Hcr, -, HG⟩
  ihave Hc := (creds (F := F) c) $$ Hcr
  imodintro
  isplitl
  · unfold start arrays₀ a0Pts a1Pts outPts
    isplitl [HG Hlev Hc]
    · iapply (ghost_intro m c)
      isplitl [HG]; · iexact HG
      isplitl [Hlev]; · iexact Hlev
      iexact Hc
    isplitl [H0]; · iexact H0
    isplitl [H1]; · iexact H1
    iexists _; iexact H2
  · iempintro

/-! ## The pipeline's proof data -/

theorem cfg0_N : cfg0.N = 1 := by decide

/-- Before the body. -/
def Φ₀ (c : Dev nD) : sProp 𝕄 := iprop(start m c ∗ scratch (F := F) c)
/-- After it. -/
def Φ₁ (c : Dev nD) : sProp 𝕄 := iprop(zeros (F := F) c ∗ semVal (barCell c) 0 ∗ scratch (F := F) c ∗ arrays₁ m c)

def dats (_ : Fin 1) (c : Dev nD) : Dat τ (Elt F) ℕ ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => O₀ c
    | ⟨_ + 1, _⟩ => 0

theorem body_obligation (c : Dev nD) : BodyObligation (dats (F := F) m 0 c) (defs₀ (F := F)) 𝒱₀ (0 : ℕ) Set.univ := fun t => by
  rw [fin_N0 t]
  show iprop(Φ₀ m c ∗ (dats (F := F) m 0 c).owesAt 0 t0_0.castSucc ∗ bigSep Finset.univ _)
    ⊢ wp frame (wpE (defs₀ (F := F)) 𝒱₀ (T c) none) Set.univ (bodyAt0 t0_0)
      fun _ => iprop(Φ₁ m c ∗ (dats (F := F) m 0 c).owesAt 0 t0_0.succ ∗ bigSep Finset.univ _)
  rw [body_eq]
  unfold Dat.owesAt Pipeline.owesWithin Φ₀ start
  iintro ⟨⟨⟨⟨%K, #Hc, Hg⟩, Ha⟩, Hs⟩, ⟨%W, %hW, HO⟩, -⟩
  iapply (run_whole m K c) $$ [Hg Ha Hs HO]
  · isplitr; · iexact Hc
    isplitl [HO]; · unfold owe; iexists W; iexact HO
    isplitl [Hg]; · iexact Hg
    isplitl [Hs]; · iexact Hs
    iexact Ha
  unfold owe
  iintro ⟨⟨%W', HO⟩, Hz, Hb, Hs, Ha⟩
  isplitl [Hz Hb Hs Ha]
  · unfold Φ₁
    isplitl [Hz]; · iexact Hz
    isplitl [Hb]; · iexact Hb
    isplitl [Hs]; · iexact Hs
    iexact Ha
  isplitl [HO]
  · iexists W'
    isplitr
    · ipureintro
      exact fun _ _ => Or.inl trivial
    iexact HO
  rw [show (Finset.univ : Finset (Fin cfg0.W)) = ∅ from rfl, BI.bigSep_empty]
  iempintro

theorem phi0_intro (c : Dev nD) :
    iprop(start m c ∗ Pipeline.prefHeld Pipeline.Prefetch.none c (fun _ => fullShare.right) (fun k => k.elim0) ∗ Pipeline.scopedRest cfg0.spec c)
      ⊢ (dats (F := F) m 0 c).Φ 0 := by
  rw [show (dats (F := F) m 0 c).Φ 0 = Φ₀ m c from rfl, scopedRest0_eq]
  unfold Φ₀ scratch
  iintro ⟨Hs, -, Hr⟩
  isplitl [Hs]; · iexact Hs
  iexact Hr

/-- What is left at the end, besides the kernel's own semaphores and buffers. -/
def rest (c : Dev nD) : sProp 𝕄 := iprop(arrays₁ m c ∗ unscopedSems0 c)

theorem phi1_exit (c : Dev nD) :
    (dats (F := F) m 0 c).Φ (Fin.last cfg0.N) ⊢ iprop(rest m c ∗ Pipeline.ownSems0 osem c ∗ Pipeline.scopedRest cfg0.spec c) := by
  rw [show (dats (F := F) m 0 c).Φ (Fin.last cfg0.N) = Φ₁ m c from rfl, scopedRest0_eq, ownSems_eq]
  unfold Φ₁ rest zeros scratch
  rw [unscopedSems_eq]
  iintro ⟨⟨H0, ⟨S0, S1⟩, ⟨R0, R1⟩, ⟨A0, A1, A2, A3⟩, V⟩, Hb, Hs, Ha⟩
  isplitl [Ha Hb]
  · isplitl [Ha]; · iexact Ha
    iexact Hb
  isplitr [Hs]
  · isplitl [H0]; · iexact H0
    isplitl [S0]; · iexact S0
    isplitl [S1]; · iexact S1
    isplitl [R0]; · iexact R0
    isplitl [R1]; · iexact R1
    isplitl [A0]; · iexact A0
    isplitl [A1]; · iexact A1
    isplitl [A2]; · iexact A2
    isplitl [A3]; · iexact A3
    iexact V
  iexact Hs

theorem waits (c : Dev nD) : (levAts L lv : sProp 𝕄) ⊢ Pipeline.cellsWaits cfgs (dats (F := F) m) (0 : ℕ) 0 c :=
  Pipeline.cellsWaits_intro cfgs (dats (F := F) m) (0 : ℕ) 0 c fun w _ _ => w.elim0

theorem L_of_ne (g : GSem nD τ sig) (h : g.1.2 ≠ .tc) : L g = ∅ := if_neg h

/-! ## The run -/

/-- What a final memory holds, on device `c`. -/
def Done (c : Dev nD) (s : MemSt nD τ sig (Elt F)) : Prop :=
  s.mem ((T c).loc main_arg0) = m ((T c).loc main_arg0) ∧ s.mem ((T c).loc main_arg1) = m ((T c).loc main_arg1)
    ∧ ∀ i, (outM i).view.read (Elt F) (s.mem ((T c).loc main_v1)) = outV m c i

theorem rest_read (c : Dev nD) (s' : Phys nD τ sig (Elt F)) :
    iprop(rest m c ∗ emp ∗ SI s')
      ⊢ |={Set.univ}=> iprop(⌜Done m c s'.mem ∧ ∀ sm : SemLoc sig, sm.isScoped .tc = false → s'.mem.sem (T c, sm) = 0⌝ ∗ SI s' : sProp 𝕄) := by
  unfold rest arrays₁ a0Pts a1Pts outIs outPts
  iintro ⟨⟨⟨H0, H1, ⟨%g, H2, %hg⟩⟩, Hu⟩, -, HSI⟩
  icombine HSI H0 gives %h0
  icombine HSI H1 gives %h1
  icombine HSI H2 gives %h2
  imod (Pipeline.unscopedSems0_read (X := unscopedSems0 c) (c := c) fupd_intro s') $$ [Hu HSI] with ⟨%hs, HSI⟩
  · isplitl [Hu]; · iexact Hu
    iexact HSI
  imodintro
  isplitr
  · ipureintro
    refine ⟨⟨Buf.eq_of_forall_mem_univ h0, Buf.eq_of_forall_mem_univ h1, fun i => ?_⟩, hs⟩
    rw [Buf.eq_of_forall_mem_univ h2]; exact hg i
  iexact HSI

theorem run_main : θ_run defs (onTc (τ := τ) (main (F := F))) ⟨m, fun _ => 0, ρ⟩ (fun r => (∀ c, Done m c r.2) ∧ r.2.sem = fun _ => 0) :=
  Pipeline.θ_run_region_owing_glob_pf (fun p => (cfgs p).toPCfg) (fun p => (cfgs p).toPCfg_adm) (dats (F := F) m) (0 : ℕ) cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G (F := F) m) (G' := G' (F := F) m) (u₀ := u₀)
    (hu₀ := fund_u m)
    (hglob := glob m)
    (hA := fun _ w => w.elim0) (hpf := fun _ k => k.elim0)
    (X := start m) (Y := rest m) (Z := fun _ => iprop(emp))
    (hX := start_intro m ρ) (hin := phi0_intro m) (hout := phi1_exit m)
    (QY := fun c s => Done m c s ∧ ∀ sm : SemLoc sig, sm.isScoped .tc = false → s.sem (T c, sm) = 0)
    (hY := rest_read m)
    (hQ := fun _ h hs => ⟨fun c => (h c).2.2.1, sem_eq_zero hs fun c => (h c).2.2.2⟩)

end Cert.KernelIdeal.Own

end
-- ==== Proof.Frames.lean ====
/- The frames of the three programs, in the claims' own spelling: each run terminates, leaves its two
   arguments as they were, and every semaphore counter at zero. -/
module

public import proofs.«01_k».proof.Defs
public import proofs.«01_k».proof.Proof.Run
public import proofs.«01_k».proof.Proof.Float.Run
public import proofs.«01_k».proof.Proof.Gen.ReferenceIdeal.Frame

@[expose] public section

noncomputable section

namespace Cert.Proof

open Idealize.ShloMosaic Idealize.SL.Sem

/-- The machine-word kernel. -/
theorem frame_kernel : Cert.quiescent_Kernel := fun m ρ _ =>
  (θ_run _ _ _).mono (fun _ h => ⟨fun c => ⟨(h.1 c).1, (h.1 c).2.1⟩, h.2⟩) (Cert.Kernel.Own.run_main m ρ)

/-- The kernel over the extended reals. -/
theorem frame_ideal : Cert.quiescent_KernelIdeal := fun m ρ _ =>
  (θ_run _ _ _).mono (fun _ h => ⟨fun c => ⟨(h.1 c).1, (h.1 c).2.1⟩, h.2⟩) (Cert.KernelIdeal.Own.run_main m ρ)

/-- The reference over the extended reals. -/
theorem frame_reference : Cert.quiescent_ReferenceIdeal := fun m ρ _ => Cert.ReferenceIdeal.Gen.frame m ρ

end Cert.Proof

end
-- ==== Proof.Entries.lean ====
/- The whole arrays' product, entry by entry: the positive part of each entry, and the greatest of them. Both programs are
   read against these. -/
module

public import Idealize.ShloMosaic.PureOps.Ideal
public import Idealize.ShloMosaic.Lib.Pointwise

@[expose] public section

noncomputable section

namespace Cert.Entries

open Idealize.ShloMosaic

variable (X : (⟨2, ![4096, 4096]⟩ : Shape).Idx → EReal) (W : (⟨2, ![4096, 8192]⟩ : Shape).Idx → EReal)

/-- An entry of the product. -/
def prod (r : Fin 4096) (c : Fin 8192) : EReal := ∑ k : Fin 4096, X (ix2 r k) * W (ix2 k c)

/-- The positive part of an entry of the product. -/
def pos (r : Fin 4096) (c : Fin 8192) : EReal := max (prod X W r c) 0

/-- The greatest entry of the product's positive part. -/
def greatest : EReal := ⨆ p : Fin 4096 × Fin 8192, pos X W p.1 p.2

theorem greatest_le (u : EReal) : greatest X W ≤ u ↔ ∀ r c, pos X W r c ≤ u := by
  unfold greatest
  rw [iSup_le_iff]
  exact ⟨fun h r c => h (r, c), fun h p => h p.1 p.2⟩

theorem pos_nonneg (r : Fin 4096) (c : Fin 8192) : 0 ≤ pos X W r c := le_max_right _ _
theorem pos_le_greatest (r : Fin 4096) (c : Fin 8192) : pos X W r c ≤ greatest X W := (greatest_le X W _).mp le_rfl r c

end Cert.Entries

end
-- ==== Proof.Product.lean ====
/- The matrix product of the whole arrays, and what each device's ring of partial sums makes of it: a device's own rows of it,
   positive part taken. -/
module

public import proofs.«01_k».proof.Proof.Values
public import proofs.«01_k».proof.Proof.Entries
public import Idealize.ShloMosaic.Lib.Pointwise

@[expose] public section

set_option maxRecDepth 65536

noncomputable section

namespace Cert.KernelIdeal.Own

open Idealize.ShloMosaic Idealize.SL.Sem
open Cert.KernelIdeal.Gen Cert.Entries

/-! ## Places in the whole arrays -/

/-- Row `r` of the `b`-th quarter of 4096 rows. -/
def row4 (b : Dev nD) (r : Fin 1024) : Fin 4096 := ⟨1024 * b.val + r.val, by have h : b.val < 4 := b.isLt; have := r.isLt; omega⟩
/-- Column `c` of the `j`-th eighth of 8192 columns. -/
def col8 (j : Fin 8) (c : Fin 1024) : Fin 8192 := ⟨1024 * j.val + c.val, by have := j.isLt; have := c.isLt; omega⟩

/-- A sum over 4096 places, quarter by quarter. -/
theorem sum_quarters (f : Fin 4096 → EReal) : ∑ k, f k = ∑ e : Dev nD, ∑ k, f (row4 e k) := by
  rw [← Fintype.sum_prod_type' (fun (e : Dev nD) k => f (row4 e k)), ← Equiv.sum_comp (finProdFinEquiv (m := 4) (n := 1024)) f]
  refine Fintype.sum_congr _ _ fun p => congrArg f (Fin.ext ?_)
  show p.2.val + 1024 * p.1.val = 1024 * p.1.val + p.2.val
  exact Nat.add_comm _ _

variable (X : (⟨2, ![4096, 4096]⟩ : Shape).Idx → EReal) (W : (⟨2, ![4096, 8192]⟩ : Shape).Idx → EReal)

/-- A device's part of an entry: the sum over the places that it holds. -/
def share (e : Dev nD) (r : Fin 4096) (c : Fin 8192) : EReal := ∑ k : Fin 1024, X (ix2 r (row4 e k)) * W (ix2 (row4 e k) c)

/-- The devices' parts, in the order in which the ring of device `d` adds them, are the entry. -/
theorem ring_sum (d : Dev nD) (r : Fin 4096) (c : Fin 8192) :
    share X W (prv (prv (prv d))) r c + share X W (prv (prv d)) r c + share X W (prv d) r c + share X W d r c = prod X W r c := by
  have h : prod X W r c = ∑ e : Dev nD, share X W e r c := sum_quarters _
  have h4 : ∑ e : Dev nD, share X W e r c = share X W 0 r c + share X W 1 r c + share X W 2 r c + share X W 3 r c := Fin.sum_univ_four _
  rw [h, h4]
  generalize hg : (fun e : Dev nD => share X W e r c) = g
  have hg' : ∀ e, share X W e r c = g e := fun e => congrFun hg e
  simp only [hg']
  clear hg hg' h h4
  have hd : d = 0 ∨ d = 1 ∨ d = 2 ∨ d = 3 := by revert d; decide
  rcases hd with rfl | rfl | rfl | rfl
  · show g 1 + g 2 + g 3 + g 0 = _
    ac_rfl
  · show g 2 + g 3 + g 0 + g 1 = _
    ac_rfl
  · show g 3 + g 0 + g 1 + g 2 = _
    ac_rfl
  · rfl

theorem step0 (d : Dev nD) : ((prv (prv d)).val + 6 - (0 : Fin 3).val) % 4 = d.val := by revert d; decide
theorem step1 (d : Dev nD) : ((prv d).val + 6 - (1 : Fin 3).val) % 4 = d.val := by revert d; decide
theorem step2 (d : Dev nD) : (d.val + 6 - (2 : Fin 3).val) % 4 = d.val := by revert d; decide
theorem round3 (d : Dev nD) : pl (prv (prv (prv d))) 3 = d := by revert d; decide

/-! ## The kernel's operations at an index -/

theorem mm_apply (a b : FVec Ideal S1024x1024 .f32) (r c : Fin 1024) :
    mm a b (ix2 r c) = ∑ k : Fin 1024, (a (ix2 r k) : EReal) * b (ix2 k c) := by
  unfold mm
  pointwise

theorem plus_apply (a b c : FVec Ideal S1024x1024 .f32) (r q : Fin 1024) :
    plus (toSlot a) b c (ix2 r q) = (a (ix2 r q) + ∑ k : Fin 1024, (b (ix2 r k) : EReal) * c (ix2 k q) : EReal) := by
  unfold plus
  rw [ofSlot_toSlot]
  show (a _ + mm b c _ : EReal) = _
  rw [mm_apply]

theorem relu_apply (a : FVec Ideal S1024x1024 .f32) (i : S1024x1024.Idx) : relu a i = max (a i : EReal) 0 := by
  unfold relu
  pointwise

/-! ## The blocks that a device reads -/

variable (m : (ℓ : Loc nD τ sig) → Buf (Elt Ideal) ℓ)

/-- The devices' arguments are the whole arrays' blocks: columns of the first, rows of the second. -/
def Agree : Prop :=
  (∀ (d : Dev nD) (r : Fin 4096) (k : Fin 1024), m ((T d).loc main_arg0) (ix2 r k) = X (ix2 r (row4 d k)))
  ∧ ∀ (d : Dev nD) (k : Fin 1024) (c : Fin 8192), m ((T d).loc main_arg1) (ix2 k c) = W (ix2 (row4 d k) c)

variable {X W m} (H : Agree X W m)
include H

theorem xrow1_apply (d : Dev nD) (r k : Fin 1024) : xrow1 m d (ix2 r k) = X (ix2 (row4 (pl d 3) r) (row4 d k)) := by
  refine Eq.trans ?_ (H.1 d (row4 (pl d 3) r) k)
  refine congrArg (m ((T d).loc main_arg0)) (funext fun a => Fin.ext ?_)
  have h : k0_off1 d a + 1 * (ix2 r k a).val = (ix2 (row4 (pl d 3) r) k a).val := by
    rw [k0_off1_eq d]
    fin_cases a
    · show 1024 * ((d.val + 3) % 4) + 1 * r.val = 1024 * ((d.val + 3) % 4) + r.val
      omega
    · show 0 + 1 * k.val = k.val
      omega
  exact h

theorem xrow2_apply (d : Dev nD) (s : Fin 3) (b : Dev nD) (hb : ((d.val + 6) - s.val) % 4 = b.val) (r k : Fin 1024) :
    xrow2 m d s (ix2 r k) = X (ix2 (row4 b r) (row4 d k)) := by
  refine Eq.trans ?_ (H.1 d (row4 b r) k)
  refine congrArg (m ((T d).loc main_arg0)) (funext fun a => Fin.ext ?_)
  have h : k0_off2 d (BitVec.ofNat 32 s.val) a + 1 * (ix2 r k a).val = (ix2 (row4 b r) k a).val := by
    rw [k0_off2_eq d s]
    fin_cases a
    · show 1024 * (((d.val + 6) - s.val) % 4) + 1 * r.val = 1024 * b.val + r.val
      rw [hb]; omega
    · show 0 + 1 * k.val = k.val
      omega
  exact h

theorem wb_apply (d : Dev nD) (j : Fin 8) (k c : Fin 1024) : wb m d j (ix2 k c) = W (ix2 (row4 d k) (col8 j c)) := by
  refine Eq.trans ?_ (H.2 d k (col8 j c))
  refine congrArg (m ((T d).loc main_arg1)) (funext fun a => Fin.ext ?_)
  have h : (![0, 1024 * j.val] : Fin 2 → ℕ) a + 1 * (ix2 k c a).val = (ix2 k (col8 j c) a).val := by
    fin_cases a
    · show 0 + 1 * k.val = k.val
      omega
    · show 1024 * j.val + 1 * c.val = 1024 * j.val + c.val
      omega
  exact h

/-! ## The ring's sums -/

/-- After the last ring step a device holds its own rows of the product, positive part taken. -/
theorem fin_apply (d : Dev nD) (j : Fin 8) (r c : Fin 1024) : fin m d j (ix2 r c) = pos X W (row4 d r) (col8 j c) := by
  unfold fin acc2 acc1 acc0 pos
  rw [relu_apply, plus_apply, plus_apply, plus_apply, mm_apply, ← ring_sum X W d]
  have h1 : ∀ k, xrow1 m (prv (prv (prv d))) (ix2 r k) = X (ix2 (row4 d r) (row4 (prv (prv (prv d))) k)) := fun k => by
    rw [xrow1_apply H, round3]
  have h2 : ∀ k, xrow2 m (prv (prv d)) 0 (ix2 r k) = X (ix2 (row4 d r) (row4 (prv (prv d)) k)) := fun k =>
    xrow2_apply H _ 0 d (step0 d) r k
  have h3 : ∀ k, xrow2 m (prv d) 1 (ix2 r k) = X (ix2 (row4 d r) (row4 (prv d) k)) := fun k =>
    xrow2_apply H _ 1 d (step1 d) r k
  have h4 : ∀ k, xrow2 m d 2 (ix2 r k) = X (ix2 (row4 d r) (row4 d k)) := fun k =>
    xrow2_apply H _ 2 d (step2 d) r k
  simp only [h1, h2, h3, h4, wb_apply H]
  rfl

end Cert.KernelIdeal.Own

end
-- ==== Proof.Scalar.lean ====
/- One element of the quantiser over the extended reals: what the kernel makes of an entry of the product and what the
   reference makes of it are the same number. -/
module

public import Idealize.ShloMosaic.PureOps.Ideal.Laws
public import Idealize.ShloMosaic.Lib.IdealHost

@[expose] public section

noncomputable section

namespace Cert.Quant

open Idealize.ShloMosaic

/-! ## The constants -/

/-- The word of minus infinity. -/
theorem least_bits : Ideal.ofBits .f32 0xFF800000#32 = (⊥ : EReal) := by simp [Ideal.ofBits, Ideal.ieee]

/-- The floor under the maximum, 1e-30 as a word, is a positive real number. -/
theorem floor_real : ∃ e : ℝ, 0 < e ∧ Ideal.ofBits .f32 0x0DA24260#32 = (e : EReal) := by
  refine ⟨_, ?_, by simp [Ideal.ofBits, Ideal.ieee]; rfl⟩
  positivity

/-- The greatest number of the eight-bit format, 448. -/
theorem top_real : ∃ c : ℝ, 0 < c ∧ Ideal.ofBits .f32 0x43E00000#32 = (c : EReal) := by
  refine ⟨_, ?_, by simp [Ideal.ofBits, Ideal.ieee]; rfl⟩
  positivity

/-! ## The two ways -/

/-- The kernel's way: by the inverse scale, then by the scale, of the maximum kept away from zero. -/
def viaInverse (y g c : EReal) : EReal := y * Ideal.div c g * Ideal.div g c

/-- The reference's way: by the scale, clipped, its sign put back, by the scale again. -/
def viaScale (y a c : EReal) : EReal :=
  Ideal.sign (Ideal.div y (Ideal.div a c)) * min (max (Ideal.div y (Ideal.div a c)) (-Ideal.div y (Ideal.div a c))) c * Ideal.div a c

theorem div_real (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

/-- At a maximum that is neither zero nor infinite, the kernel's way is the identity. -/
theorem viaInverse_real (y g c : ℝ) (hg : 0 < g) (hc : 0 < c) : viaInverse y g c = (y : EReal) := by
  unfold viaInverse
  rw [div_real c g hg.ne', div_real g c hc.ne', ← EReal.coe_mul, ← EReal.coe_mul]
  congr 1
  field_simp

/-- And so is the reference's, of an entry between zero and the maximum. -/
theorem viaScale_real (y a c : ℝ) (ha : 0 < a) (hc : 0 < c) (hy : 0 ≤ y) (hya : y ≤ a) : viaScale y a c = (y : EReal) := by
  unfold viaScale
  have hs : 0 < a / c := div_pos ha hc
  rw [div_real a c hc.ne', div_real y (a / c) hs.ne']
  rcases hy.eq_or_lt with rfl | hy
  · have h0 : (((0 : ℝ) / (a / c) : ℝ) : EReal) = 0 := by simp
    rw [h0, Ideal.sign_zero]; simp
  · have ht : 0 < y / (a / c) := div_pos hy hs
    have hle : y / (a / c) ≤ c := by
      rw [div_le_iff₀ hs]
      calc y ≤ a := hya
        _ = c * (a / c) := by field_simp
    rw [Ideal.sign_of_pos (by exact_mod_cast ht), one_mul,
      max_eq_left (by rw [← EReal.coe_neg]; exact_mod_cast (by linarith)),
      min_eq_left (by exact_mod_cast hle), ← EReal.coe_mul]
    congr 1
    field_simp

/-- The two ways agree on an entry between zero and the maximum, whatever the maximum is: at zero and at infinity both give zero. -/
theorem ways_agree (y a : EReal) (e c : ℝ) (he : 0 < e) (hc : 0 < c) (hy : 0 ≤ y) (hya : y ≤ a) :
    viaInverse y (max a e) c = viaScale y a c := by
  rcases eq_or_ne a ⊤ with rfl | hat
  · have h1 : Ideal.div (c : EReal) ⊤ = 0 := by
      unfold Ideal.div; rw [if_neg (by simp), EReal.inv_top, mul_zero]
    have h2 : Ideal.div (⊤ : EReal) (c : EReal) = ⊤ := by
      unfold Ideal.div
      rw [if_neg (by exact_mod_cast hc.ne'), ← EReal.coe_inv]
      exact EReal.top_mul_coe_of_pos (inv_pos.mpr hc)
    have h3 : Ideal.div y ⊤ = 0 := by
      unfold Ideal.div; rw [if_neg (by simp), EReal.inv_top, mul_zero]
    unfold viaInverse viaScale
    rw [max_eq_left le_top, h1, h2, h3, Ideal.sign_zero]; simp
  · have ha0 : 0 ≤ a := hy.trans hya
    lift a to ℝ using ⟨hat, (EReal.bot_lt_zero.trans_le ha0).ne'⟩
    lift y to ℝ using ⟨(hya.trans_lt (EReal.coe_lt_top a)).ne, (EReal.bot_lt_zero.trans_le hy).ne'⟩
    have hy' : 0 ≤ y := by exact_mod_cast hy
    have hya' : y ≤ a := by exact_mod_cast hya
    rw [show max (a : EReal) e = ((max a e : ℝ) : EReal) from (EReal.coe_strictMono.monotone.map_max).symm, viaInverse_real y (max a e) c (lt_max_of_lt_right he) hc]
    rcases (hy'.trans hya').eq_or_lt with h0 | h0
    · subst h0
      obtain rfl : y = 0 := le_antisymm hya' hy'
      unfold viaScale
      rw [div_real 0 c hc.ne']
      simp
    · exact (viaScale_real y a c h0 hc hy' hya').symm

end Cert.Quant

end
-- ==== Proof.Maxima.lean ====
/- The greatest entry: what the devices exchange is the greatest entry of the whole product's positive part, and with it
   every entry of the kernel's result in closed form. -/
module

public import proofs.«01_k».proof.Proof.Product
public import proofs.«01_k».proof.Proof.Scalar

@[expose] public section

set_option maxRecDepth 65536

noncomputable section

namespace Cert.KernelIdeal.Own

open Idealize.ShloMosaic Idealize.SL.Sem
open Cert.KernelIdeal.Gen Cert.Entries

/-! ## Maxima by their upper bounds -/

theorem amaxOf_le (am : Ideal .f32) (a : FVec Ideal S1024x1024 .f32) (u : EReal) :
    (amaxOf am a : EReal) ≤ u ↔ (am : EReal) ≤ u ∧ ∀ r c, (a (ix2 r c) : EReal) ≤ u := by
  unfold amaxOf toSlot
  pointwise
  rw [max_le_iff, Finset.fold_max_le, Quant.least_bits]
  exact and_congr_right fun _ => ⟨fun h r c => h.2 (r, c) (Finset.mem_univ _), fun h => ⟨bot_le, fun x _ => h x.1 x.2⟩⟩

theorem one_idx (x y : S1.Idx) : x = y := funext fun a => Fin.ext (by
  have h3 : S1.size a = 1 := by fin_cases a; rfl
  have h1 := lt_of_lt_of_eq (x a).isLt h3
  have h2 := lt_of_lt_of_eq (y a).isLt h3
  omega)

theorem gmax_le (v : Vec Ideal S4x8x128 .f32) (u : EReal) :
    (gmax v : EReal) ≤ u ↔ (∀ i, (v i : EReal) ≤ u) ∧ (Ideal.ofBits .f32 0x0DA24260#32 : EReal) ≤ u := by
  unfold gmax
  pointwise
  rw [max_le_iff, Finset.fold_max_le, Quant.least_bits]
  refine and_congr_left fun _ => ⟨fun h i => ?_, fun h => ⟨bot_le, fun x _ => h _⟩⟩
  have h' := h.2 (ix4 0 (i 0) (i 1) (i 2)) (Finset.mem_filter.mpr ⟨Finset.mem_univ _, one_idx _ _⟩)
  have e : (ix3 (i 0) (i 1) (i 2) : S4x8x128.Idx) = i := (eq_ix3 i).symm
  exact (congrArg v e) ▸ h'

/-- The kernel's quantiser on an entry, by any maximum. -/
theorem quantM_apply (g c : Ideal .f32) (a : FVec Ideal S1024x1024 .f32) (i : S1024x1024.Idx) :
    quantM (Scalar.divf g c) (Scalar.divf c g) a i = Quant.viaInverse (a i) g c := by
  unfold quantM Quant.viaInverse
  pointwise

variable (m : (ℓ : Loc nD τ sig) → Buf (Elt Ideal) ℓ)

theorem amUp_le (d : Dev nD) (u : EReal) (n : ℕ) :
    (amUp m d n : EReal) ≤ u ↔ 0 ≤ u ∧ ∀ k < n, ∀ r c, (fin m d (Fin.ofNat 8 k) (ix2 r c) : EReal) ≤ u := by
  induction n with
  | zero =>
    have h : (amUp m d 0 : EReal) = 0 := Ideal.ofBits_zero_f32
    rw [h]
    exact ⟨fun h => ⟨h, fun k hk => absurd hk (Nat.not_lt_zero k)⟩, fun h => h.1⟩
  | succ n ih =>
    unfold amUp
    rw [amaxOf_le, ih]
    constructor
    · rintro ⟨⟨h0, h1⟩, h2⟩
      refine ⟨h0, fun k hk => ?_⟩
      rcases Nat.lt_succ_iff_lt_or_eq.mp hk with hk | rfl
      · exact h1 k hk
      · exact h2
    · rintro ⟨h0, h1⟩
      exact ⟨⟨h0, fun k hk => h1 k (Nat.lt_succ_of_lt hk)⟩, h1 n (Nat.lt_succ_self n)⟩

theorem amx_le (d : Dev nD) (u : EReal) :
    (amx m d : EReal) ≤ u ↔ 0 ≤ u ∧ ∀ j r c, (fin m d j (ix2 r c) : EReal) ≤ u := by
  unfold amx
  rw [amUp_le]
  refine and_congr_right fun _ => ⟨fun h j r c => ?_, fun h k _ => h _⟩
  have := h j.val j.isLt r c
  rwa [show Fin.ofNat 8 j.val = j from Fin.ext (Nat.mod_eq_of_lt j.isLt)] at this

/-! ## The greatest entry of the whole product -/

variable (X : (⟨2, ![4096, 4096]⟩ : Shape).Idx → EReal) (W : (⟨2, ![4096, 8192]⟩ : Shape).Idx → EReal)

theorem row4_onto (r : Fin 4096) : ∃ d q, row4 d q = r :=
  ⟨⟨r.val / 1024, by have := r.isLt; show r.val / 1024 < 4; omega⟩, ⟨r.val % 1024, Nat.mod_lt _ (by decide)⟩,
    Fin.ext (Nat.div_add_mod r.val 1024)⟩
theorem col8_onto (c : Fin 8192) : ∃ j q, col8 j q = c :=
  ⟨⟨c.val / 1024, by have := c.isLt; omega⟩, ⟨c.val % 1024, Nat.mod_lt _ (by decide)⟩, Fin.ext (Nat.div_add_mod c.val 1024)⟩

theorem pl_sub (d e : Dev nD) : ∃ n, pl d n = e := by revert d e; decide

variable {X W m} (H : Agree X W m)
include H

/-- What every device finds in its planes has the greatest entry of the whole product as its maximum. -/
theorem gmax_eq (d : Dev nD) : (gmax (maxV m d) : EReal) = max (greatest X W) (Ideal.ofBits .f32 0x0DA24260#32) := by
  refine eq_of_forall_ge_iff fun u => ?_
  rw [gmax_le, max_le_iff, greatest_le]
  refine and_congr_left fun _ => ⟨fun h r c => ?_, fun h i => ?_⟩
  · obtain ⟨e, r', rfl⟩ := row4_onto r
    obtain ⟨j, c', rfl⟩ := col8_onto c
    obtain ⟨n, rfl⟩ := pl_sub d e
    have := ((amx_le m (pl d n) u).mp (h (ix3 n 0 0))).2 j r' c'
    rwa [fin_apply H] at this
  · refine (amx_le m (pl d (i 0)) u).mpr ⟨(pos_nonneg X W 0 0).trans (h 0 0), fun j r c => ?_⟩
    rw [fin_apply H]
    exact h _ _

/-- An entry of a device's result. -/
theorem outV_apply (d : Dev nD) (j : Fin 8) (r c : Fin 1024) :
    outV m d j (ix2 r c) = Quant.viaInverse (pos X W (row4 d r) (col8 j c))
      (max (greatest X W) (Ideal.ofBits .f32 0x0DA24260#32)) (Ideal.ofBits .f32 0x43E00000#32) := by
  rw [← fin_apply H, ← gmax_eq H d]
  unfold outV scaleOf invOf
  exact quantM_apply (gmax (maxV m d)) (Scalar.ofBits .f32 0x43E00000#32) _ _

/-- The same, as the reference computes it. -/
theorem outV_scale (d : Dev nD) (j : Fin 8) (r c : Fin 1024) :
    outV m d j (ix2 r c) = Quant.viaScale (pos X W (row4 d r) (col8 j c)) (greatest X W) (Ideal.ofBits .f32 0x43E00000#32) := by
  obtain ⟨e, he, hee⟩ := Quant.floor_real
  obtain ⟨q, hq, hqq⟩ := Quant.top_real
  rw [outV_apply H, hee, hqq]
  exact Quant.ways_agree _ _ e q he hq (pos_nonneg X W _ _) (pos_le_greatest X W _ _)

end Cert.KernelIdeal.Own

end
-- ==== Proof.RefValue.lean ====
/- What the reference computes: entry by entry, the quantised and scaled-back positive part of the product. -/
module

public import proofs.«01_k».proof.Proof.Gen.ReferenceIdeal.Frame
public import proofs.«01_k».proof.Proof.Scalar
public import proofs.«01_k».proof.Proof.Entries
public import Idealize.ShloMosaic.Lib.Pointwise
public import Idealize.ShloMosaic.Lib.Pipeline.ValueKit
public import Idealize.ShloMosaic.Lib.StableHlo.ReadAt
public import Idealize.ShloMosaic.Lib.Claim

@[expose] public section

set_option maxRecDepth 16384

noncomputable section

namespace Cert.ReferenceIdeal.Own

open Idealize.ShloMosaic Idealize.ShloMosaic.TcCoe Idealize.SL.Sem
open Cert.ReferenceIdeal.Gen Cert.Entries

variable (m : (ℓ : Loc nD τ sig) → Buf (Elt Ideal) ℓ) (ρ : Dev nD → PrngReg)

/-- The whole first argument. -/
abbrev X (c : Dev nD) : (⟨2, ![4096, 4096]⟩ : Shape).Idx → EReal := m (c, Proc.devRef .tc main_arg0)
/-- The whole second argument. -/
abbrev W (c : Dev nD) : (⟨2, ![4096, 8192]⟩ : Shape).Idx → EReal := m (c, Proc.devRef .tc main_arg1)

/-! ## What the lines before the launch compute -/

/-- A maximum folded from minus infinity is a supremum. -/
theorem fold_iSup {ι : Type} [Fintype ι] (f : ι → EReal) : Finset.univ.fold max ⊥ f = ⨆ x, f x := by
  refine eq_of_forall_ge_iff fun u => ?_
  rw [Finset.fold_max_le, iSup_le_iff]
  exact ⟨fun g x => g.2 x (Finset.mem_univ x), fun g => ⟨bot_le, fun x _ => g x⟩⟩

/-- The maximum of the absolute values of positive parts is the greatest positive part. -/
theorem fold_eq (A : (⟨2, ![4096, 4096]⟩ : Shape).Idx → EReal) (B : (⟨2, ![4096, 8192]⟩ : Shape).Idx → EReal) :
    (Finset.univ.fold max (Ideal.ofBits .f32 0xFF800000#32 : EReal)
      fun x : Fin 4096 × Fin 8192 => max (max (∑ k, A (ix2 x.1 k) * B (ix2 k x.2)) 0) (-max (∑ k, A (ix2 x.1 k) * B (ix2 k x.2)) 0))
      = greatest A B := by
  have h : ∀ a : EReal, max (max a 0) (-max a 0) = max a 0 := fun a => by
    have h0 : (0 : EReal) ≤ max a 0 := le_max_right _ _
    refine max_eq_left (le_trans ?_ h0)
    have h1 := EReal.neg_le_neg_iff.mpr h0
    rwa [neg_zero] at h1
  simp only [h]
  rw [Quant.least_bits]
  exact fold_iSup _

/-- The scale. -/
theorem v5_eq (c : Dev nD) (i : S_.Idx) :
    V m c main_v5 i = Ideal.div (greatest (X m c) (W m c)) (Ideal.ofBits .f32 0x43E00000#32) := by
  unfold V V0
  after_reads_at
  simp only [Ideal.absf_def]
  rw [fold_eq]

/-- The signs. -/
theorem v8_eq (c : Dev nD) (i : S4096x8192.Idx) :
    V m c main_v8 i = Ideal.sign (Ideal.div (pos (X m c) (W m c) (i 0) (i 1))
      (Ideal.div (greatest (X m c) (W m c)) (Ideal.ofBits .f32 0x43E00000#32))) := by
  unfold V V0
  after_reads_at
  simp only [Ideal.absf_def]
  rw [fold_eq]
  rfl

/-- The scaled absolute values. -/
theorem v9_eq (c : Dev nD) (i : S4096x8192.Idx) :
    V m c main_v9 i = max (Ideal.div (pos (X m c) (W m c) (i 0) (i 1))
        (Ideal.div (greatest (X m c) (W m c)) (Ideal.ofBits .f32 0x43E00000#32)))
      (-Ideal.div (pos (X m c) (W m c) (i 0) (i 1))
        (Ideal.div (greatest (X m c) (W m c)) (Ideal.ofBits .f32 0x43E00000#32))) := by
  unfold V V0
  after_reads_at
  simp only [Ideal.absf_def]
  rw [fold_eq]
  rfl

/-! ## The launch -/

/-- What the launch leaves in its result array: its operand, clipped. -/
def snapped (c : Dev nD) : FVec Ideal S4096x8192 .f32 := fun i =>
  min (V m c main_v9 i : EReal) (Ideal.ofBits .f32 0x43E00000#32)

theorem pay_apply (a : FVec Ideal S4096x8192 .f32) (i : S4096x8192.Idx) :
    k0_pay1 a i = min (a i : EReal) (Ideal.ofBits .f32 0x43E00000#32) := by
  unfold k0_pay1
  pointwise

theorem arr_eq (c : Dev nD) : (dats m 0 c).arrAt 1 (cfgs 0).N = snapped m c := by
  refine (dats m 0 c).arrAt_eq_of_covers 1 _ (by decide +kernel) fun t hf y => ?_
  blk_simp
  rw [after0_1]
  frame_out
  refine (pay_apply _ _).trans ?_
  unfold snapped
  refine congrArg (fun z => min (z : EReal) (Ideal.ofBits .f32 0x43E00000#32)) ?_
  rfl

/-! ## The lines after it -/

theorem v13_eq (c : Dev nD) : Pipeline.afterTail₀ cfgs (dats m) 0 (V0 m) [hostOps1] c main_v13
    = fun i => Quant.viaScale (pos (X m c) (W m c) (i 0) (i 1)) (greatest (X m c) (W m c)) (Ideal.ofBits .f32 0x43E00000#32) := by
  have h8 := Pipeline.withArrays_of_ne (cfgs 0).spec c (V0 m c) (fun w => (dats m 0 c).arrAt w (cfgs 0).N) main_v8
    (by exact (by decide : ∀ w, Pipeline.arrRef spec0 w ≠ main_v8))
  have h5 := Pipeline.withArrays_of_ne (cfgs 0).spec c (V0 m c) (fun w => (dats m 0 c).arrAt w (cfgs 0).N) main_v5
    (by exact (by decide : ∀ w, Pipeline.arrRef spec0 w ≠ main_v5))
  have h10 : Pipeline.withArrays (cfgs 0).spec c (V0 m c) (fun w => (dats m 0 c).arrAt w (cfgs 0).N) (Proc.devRef .tc main_v10)
      = snapped m c := (Pipeline.withArrays_arr (cfgs 0).spec launch0.win.arr_inj c (V0 m c) _ 1).trans (arr_eq m c)
  funext i
  unfold Pipeline.afterTail₀
  generalize hG : Pipeline.withArrays (cfgs 0).spec c (V0 m c) (fun w => (dats m 0 c).arrAt w (cfgs 0).N) = G at h8 h5 h10 ⊢
  after_reads_at
  have e8 := (congrFun h8 i).trans (v8_eq m c i)
  have e5 := (congrFun h5 ix0).trans (v5_eq m c ix0)
  have e10 := (congrFun h10 i).trans (congrArg (fun z => min (z : EReal) (Ideal.ofBits .f32 0x43E00000#32)) (v9_eq m c i))
  unfold Quant.viaScale
  exact congrArg₂ (fun a b : EReal => a * b) (congrArg₂ (fun a b : EReal => a * b) e8 e10) e5

/-- The reference's run: its result, and its arguments as they were. -/
theorem run (c : Dev nD) : θ_run defs (onTc main) ⟨m, fun _ => 0, ρ⟩ fun r =>
    r.2.mem (c.tc.loc main_v13)
        = (fun i => Quant.viaScale (pos (X m c) (W m c) (i 0) (i 1)) (greatest (X m c) (W m c)) (Ideal.ofBits .f32 0x43E00000#32))
      ∧ r.2.mem (c.tc.loc main_arg0) = m (c.tc.loc main_arg0) ∧ r.2.mem (c.tc.loc main_arg1) = m (c.tc.loc main_arg1) :=
  θ_run_and
    ((θ_run defs _ _).mono (fun _ h => ((h c).2 main_v13 (Pipeline.mem_restRefs_of main_v13 (by decide) (by decide))).trans (v13_eq m c))
      (run_main m ρ))
    ((θ_run defs _ _).mono (fun _ h => h c) (unchanged m ρ))

end Cert.ReferenceIdeal.Own

end
-- ==== Proof.Algebraic.lean ====
/- The kernel on four devices and the reference on one compute the same array. Each device ends with its quarter of the
   rows of the reference's result. -/
module

public import proofs.«01_k».proof.Defs
public import proofs.«01_k».proof.Proof.Run
public import proofs.«01_k».proof.Proof.Maxima
public import proofs.«01_k».proof.Proof.RefValue
public import Idealize.ShloMosaic.Lib.Layout

@[expose] public section

noncomputable section

namespace Cert.Proof

open Idealize.ShloMosaic Idealize.SL.Sem Cert.Entries Cert.KernelIdeal.Own

/-- An index is determined by the numbers of its two coordinates. -/
theorem idx_ext {a b : ℕ} (i j : (⟨2, ![a, b]⟩ : Shape).Idx) (h0 : (i 0).val = (j 0).val) (h1 : (i 1).val = (j 1).val) : i = j :=
  funext fun p => match p with
    | ⟨0, _⟩ => Fin.ext h0
    | ⟨1, _⟩ => Fin.ext h1

/-! ## Where a device's part lies in the whole array -/

theorem place_cols (h : Layout.Tiles ⟨2, ![4096, 1024]⟩ ⟨2, ![4096, 4096]⟩ 1 4) (d : Fin 4) (r : Fin 4096) (k : Fin 1024) :
    h.idx d (ix2 r k) = ix2 r (row4 d k) :=
  idx_ext _ _ rfl (by
    rw [(Layout.idx_cols_val h d (ix2 r k)).2]
    show d.val * 1024 + k.val = 1024 * d.val + k.val
    omega)

theorem place_rows (h : Layout.Tiles ⟨2, ![1024, 8192]⟩ ⟨2, ![4096, 8192]⟩ 0 4) (d : Fin 4) (k : Fin 1024) (c : Fin 8192) :
    h.idx d (ix2 k c) = ix2 (row4 d k) c :=
  idx_ext _ _ (by
    rw [(Layout.idx_rows_val h d (ix2 k c)).1]
    show d.val * 1024 + k.val = 1024 * d.val + k.val
    omega) rfl

/-- Column `l` of chunk `j` of the result lies at column `1024 * j + l` of it. -/
theorem place_chunk (j : Fin 8) (r l : Fin 1024) :
    (outM j).view.emb (ix2 r l) = (ix2 r (col8 j l) : (⟨2, ![1024, 8192]⟩ : Shape).Idx) :=
  idx_ext _ _ (by
    show 0 + 1 * r.val = r.val
    omega) (by
    show 1024 * j.val + 1 * l.val = 1024 * j.val + l.val
    omega)

variable (m : (ℓ : Loc Cert.KernelIdeal.nD Cert.KernelIdeal.τ Cert.KernelIdeal.sig) → Buf (Elt Ideal) ℓ)

/-- The array that both programs compute. -/
def result (X : (⟨2, ![4096, 4096]⟩ : Shape).Idx → EReal) (W : (⟨2, ![4096, 8192]⟩ : Shape).Idx → EReal) :
    (⟨2, ![4096, 8192]⟩ : Shape).Idx → EReal :=
  fun i => Quant.viaScale (pos X W (i 0) (i 1)) (greatest X W) (Ideal.ofBits .f32 0x43E00000#32)

/-- A device's result array, from its eight chunks. -/
theorem chunks {X : (⟨2, ![4096, 4096]⟩ : Shape).Idx → EReal} {W : (⟨2, ![4096, 8192]⟩ : Shape).Idx → EReal} {m}
    (H : Agree X W m) (d : Dev Cert.KernelIdeal.nD) (g : (⟨2, ![1024, 8192]⟩ : Shape).Idx → EReal)
    (hg : ∀ (j : Fin 8) (r l : Fin 1024), g ((outM j).view.emb (ix2 r l)) = outV m d j (ix2 r l)) :
    g = Layout.block ⟨2, ![1024, 8192]⟩ ⟨2, ![4096, 8192]⟩ 0 4 d (result X W) := by
  have key : ∀ (r : Fin 1024) (c : Fin 8192),
      g (ix2 r c) = (Layout.block ⟨2, ![1024, 8192]⟩ ⟨2, ![4096, 8192]⟩ 0 4 d (result X W)) (ix2 r c) := fun r c => by
    obtain ⟨j, l, rfl⟩ := col8_onto c
    refine (congrArg g (place_chunk j r l)).symm.trans ((hg j r l).trans ((outV_scale H d j r l).trans ?_))
    exact (congrArg (result X W) (place_rows _ d r (col8 j l))).symm
  funext i
  rw [eq_ix2 i]
  exact key _ _

/-- Each device's arguments are its parts of the whole arguments. -/
theorem agree_of (X : (⟨2, ![4096, 4096]⟩ : Shape).Idx → EReal) (W : (⟨2, ![4096, 8192]⟩ : Shape).Idx → EReal)
    (h : ∀ c : Dev Cert.KernelIdeal.nD, m (c.tc.loc Cert.KernelIdeal.main_arg0) = Layout.block ⟨2, ![4096, 1024]⟩ ⟨2, ![4096, 4096]⟩ 1 4 c X
      ∧ m (c.tc.loc Cert.KernelIdeal.main_arg1) = Layout.block ⟨2, ![1024, 8192]⟩ ⟨2, ![4096, 8192]⟩ 0 4 c W) :
    Agree X W m :=
  ⟨fun d r k => (congrFun (h d).1 (ix2 r k)).trans (congrArg X (place_cols _ d r k)),
    fun d k c => (congrFun (h d).2 (ix2 k c)).trans (congrArg W (place_rows _ d k c))⟩

/-- The claim. -/
theorem algebraic : Cert.algebraic_KernelIdeal_ReferenceIdeal := fun m ρ m' ρ' _ h => by
  refine ⟨result (Cert.ReferenceIdeal.Own.X m' 0) (Cert.ReferenceIdeal.Own.W m' 0), ?_, Cert.ReferenceIdeal.Own.run m' ρ' 0⟩
  have H : Agree (Cert.ReferenceIdeal.Own.X m' 0) (Cert.ReferenceIdeal.Own.W m' 0) m := agree_of m _ _ h
  exact (θ_run _ _ _).mono (fun _ hr c => ⟨chunks H c _ fun j r l => congrFun ((hr.1 c).2.2 j) (ix2 r l), (hr.1 c).1, (hr.1 c).2.1⟩)
    (Cert.KernelIdeal.Own.run_main m ρ)

end Cert.Proof

end
-- ==== Proof.lean ====
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts,
    frame_kernel, frame_ideal, frame_reference, trivial, algebraic⟩

end Cert.Proof

end
